-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v176) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)) (v4 : (c : Dev Cert.Kernel4Ideal.nD) → Buf (Elt Ideal) ((c.tc : Thread Cert.Kernel4Ideal.nD Cert.Kernel4Ideal.τ).loc Cert.Kernel4Ideal.main_v20_4)) (v5 : (c : Dev Cert.Kernel4Ideal.nD) → Buf (Elt Ideal) ((c.tc : Thread Cert.Kernel4Ideal.nD Cert.Kernel4Ideal.τ).loc Cert.Kernel4Ideal.main_v20_5)) (v6 : (c : Dev Cert.Kernel4Ideal.nD) → Buf (Elt Ideal) ((c.tc : Thread Cert.Kernel4Ideal.nD Cert.Kernel4Ideal.τ).loc Cert.Kernel4Ideal.main_v20_6)) (v7 : (c : Dev Cert.Kernel4Ideal.nD) → Buf (Elt Ideal) ((c.tc : Thread Cert.Kernel4Ideal.nD Cert.Kernel4Ideal.τ).loc Cert.Kernel4Ideal.main_v20_7)) (v8 : (c : Dev Cert.Kernel4Ideal.nD) → Buf (Elt Ideal) ((c.tc : Thread Cert.Kernel4Ideal.nD Cert.Kernel4Ideal.τ).loc Cert.Kernel4Ideal.main_v20_8)) (v9 : (c : Dev Cert.Kernel4Ideal.nD) → Buf (Elt Ideal) ((c.tc : Thread Cert.Kernel4Ideal.nD Cert.Kernel4Ideal.τ).loc Cert.Kernel4Ideal.main_v20_9)) (v10 : (c : Dev Cert.Kernel4Ideal.nD) → Buf (Elt Ideal) ((c.tc : Thread Cert.Kernel4Ideal.nD Cert.Kernel4Ideal.τ).loc Cert.Kernel4Ideal.main_v20_10)) (v11 : (c : Dev Cert.Kernel4Ideal.nD) → Buf (Elt Ideal) ((c.tc : Thread Cert.Kernel4Ideal.nD Cert.Kernel4Ideal.τ).loc Cert.Kernel4Ideal.main_v20_11)) (v12 : (c : Dev Cert.Kernel4Ideal.nD) → Buf (Elt Ideal) ((c.tc : Thread Cert.Kernel4Ideal.nD Cert.Kernel4Ideal.τ).loc Cert.Kernel4Ideal.main_v20_12)) (v13 : (c : Dev Cert.Kernel4Ideal.nD) → Buf (Elt Ideal) ((c.tc : Thread Cert.Kernel4Ideal.nD Cert.Kernel4Ideal.τ).loc Cert.Kernel4Ideal.main_v20_13)) (v14 : (c : Dev Cert.Kernel4Ideal.nD) → Buf (Elt Ideal) ((c.tc : Thread Cert.Kernel4Ideal.nD Cert.Kernel4Ideal.τ).loc Cert.Kernel4Ideal.main_v20_14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_v20_4) = v4 c
          ∧ r.2.mem ((c.tc : Thread Cert.Kernel4Ideal.nD Cert.Kernel4Ideal.τ).loc Cert.Kernel4Ideal.main_v20_5) = v5 c
          ∧ r.2.mem ((c.tc : Thread Cert.Kernel4Ideal.nD Cert.Kernel4Ideal.τ).loc Cert.Kernel4Ideal.main_v20_6) = v6 c
          ∧ r.2.mem ((c.tc : Thread Cert.Kernel4Ideal.nD Cert.Kernel4Ideal.τ).loc Cert.Kernel4Ideal.main_v20_7) = v7 c
          ∧ r.2.mem ((c.tc : Thread Cert.Kernel4Ideal.nD Cert.Kernel4Ideal.τ).loc Cert.Kernel4Ideal.main_v20_8) = v8 c
          ∧ r.2.mem ((c.tc : Thread Cert.Kernel4Ideal.nD Cert.Kernel4Ideal.τ).loc Cert.Kernel4Ideal.main_v20_9) = v9 c
          ∧ r.2.mem ((c.tc : Thread Cert.Kernel4Ideal.nD Cert.Kernel4Ideal.τ).loc Cert.Kernel4Ideal.main_v20_10) = v10 c
          ∧ r.2.mem ((c.tc : Thread Cert.Kernel4Ideal.nD Cert.Kernel4Ideal.τ).loc Cert.Kernel4Ideal.main_v20_11) = v11 c
          ∧ r.2.mem ((c.tc : Thread Cert.Kernel4Ideal.nD Cert.Kernel4Ideal.τ).loc Cert.Kernel4Ideal.main_v20_12) = v12 c
          ∧ r.2.mem ((c.tc : Thread Cert.Kernel4Ideal.nD Cert.Kernel4Ideal.τ).loc Cert.Kernel4Ideal.main_v20_13) = v13 c
          ∧ r.2.mem ((c.tc : Thread Cert.Kernel4Ideal.nD Cert.Kernel4Ideal.τ).loc Cert.Kernel4Ideal.main_v20_14) = v14 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v81) = v2 c
          ∧ r.2.mem ((c.tc : Thread Cert.Reference4Ideal.nD Cert.Reference4Ideal.τ).loc Cert.Reference4Ideal.main_v102) = v3 c
          ∧ r.2.mem ((c.tc : Thread Cert.Reference4Ideal.nD Cert.Reference4Ideal.τ).loc Cert.Reference4Ideal.main_v113) = v4 c
          ∧ r.2.mem ((c.tc : Thread Cert.Reference4Ideal.nD Cert.Reference4Ideal.τ).loc Cert.Reference4Ideal.main_v116) = v5 c
          ∧ r.2.mem ((c.tc : Thread Cert.Reference4Ideal.nD Cert.Reference4Ideal.τ).loc Cert.Reference4Ideal.main_v137) = v6 c
          ∧ r.2.mem ((c.tc : Thread Cert.Reference4Ideal.nD Cert.Reference4Ideal.τ).loc Cert.Reference4Ideal.main_v157) = v7 c
          ∧ r.2.mem ((c.tc : Thread Cert.Reference4Ideal.nD Cert.Reference4Ideal.τ).loc Cert.Reference4Ideal.main_v177) = v8 c
          ∧ r.2.mem ((c.tc : Thread Cert.Reference4Ideal.nD Cert.Reference4Ideal.τ).loc Cert.Reference4Ideal.main_v192) = v9 c
          ∧ r.2.mem ((c.tc : Thread Cert.Reference4Ideal.nD Cert.Reference4Ideal.τ).loc Cert.Reference4Ideal.main_v207) = v10 c
          ∧ r.2.mem ((c.tc : Thread Cert.Reference4Ideal.nD Cert.Reference4Ideal.τ).loc Cert.Reference4Ideal.main_v230) = v11 c
          ∧ r.2.mem ((c.tc : Thread Cert.Reference4Ideal.nD Cert.Reference4Ideal.τ).loc Cert.Reference4Ideal.main_v232) = v12 c
          ∧ r.2.mem ((c.tc : Thread Cert.Reference4Ideal.nD Cert.Reference4Ideal.τ).loc Cert.Reference4Ideal.main_v233) = v13 c
          ∧ r.2.mem ((c.tc : Thread Cert.Reference4Ideal.nD Cert.Reference4Ideal.τ).loc Cert.Reference4Ideal.main_v235) = v14 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x8x4096x64 : Shape := ⟨4, ![8, 8, 4096, 64]⟩
abbrev S8x4096x64 : Shape := ⟨3, ![8, 4096, 64]⟩
abbrev S8x16x72x256 : Shape := ⟨4, ![8, 16, 72, 256]⟩
abbrev S8x4x4096x64 : Shape := ⟨4, ![8, 4, 4096, 64]⟩
abbrev S8x8x4096 : Shape := ⟨3, ![8, 8, 4096]⟩
abbrev S8x4096x512 : Shape := ⟨3, ![8, 4096, 512]⟩
abbrev S1x8x256x64 : Shape := ⟨4, ![1, 8, 256, 64]⟩
abbrev S1x4096x64 : Shape := ⟨3, ![1, 4096, 64]⟩
abbrev S1x16x72x256 : Shape := ⟨4, ![1, 16, 72, 256]⟩
abbrev S1x4x256x64 : Shape := ⟨4, ![1, 4, 256, 64]⟩
abbrev S1x8x256 : Shape := ⟨3, ![1, 8, 256]⟩
abbrev S1x256x512 : Shape := ⟨3, ![1, 256, 512]⟩
abbrev S512x8x256 : Shape := ⟨3, ![512, 8, 256]⟩
abbrev S32x17x8x256 : Shape := ⟨4, ![32, 17, 8, 256]⟩
abbrev S1x2048 : Shape := ⟨2, ![1, 2048]⟩
abbrev S1x256x256 : Shape := ⟨3, ![1, 256, 256]⟩
abbrev S256x2048 : Shape := ⟨2, ![256, 2048]⟩
abbrev S72x2048 : Shape := ⟨2, ![72, 2048]⟩
abbrev S1x256 : Shape := ⟨2, ![1, 256]⟩
abbrev S8x256 : Shape := ⟨2, ![8, 256]⟩
abbrev S1x512x64 : Shape := ⟨3, ![1, 512, 64]⟩
abbrev S512x64 : Shape := ⟨2, ![512, 64]⟩
abbrev S4x256x64 : Shape := ⟨3, ![4, 256, 64]⟩
abbrev S1024x64 : Shape := ⟨2, ![1024, 64]⟩
abbrev S512x1024 : Shape := ⟨2, ![512, 1024]⟩
abbrev S512x256 : Shape := ⟨2, ![512, 256]⟩
abbrev S64x8x256 : Shape := ⟨3, ![64, 8, 256]⟩
abbrev S1x1x8x256 : Shape := ⟨4, ![1, 1, 8, 256]⟩
abbrev S16x8x256 : Shape := ⟨3, ![16, 8, 256]⟩
abbrev S1x16x8x256 : Shape := ⟨4, ![1, 16, 8, 256]⟩
abbrev S256 : Shape := ⟨1, ![256]⟩
abbrev S1x1x256 : Shape := ⟨3, ![1, 1, 256]⟩
abbrev S16x256 : Shape := ⟨2, ![16, 256]⟩
abbrev S16x1x256 : Shape := ⟨3, ![16, 1, 256]⟩
abbrev S32x8x256 : Shape := ⟨3, ![32, 8, 256]⟩
abbrev S256x256 : Shape := ⟨2, ![256, 256]⟩
abbrev S1x256x64 : Shape := ⟨3, ![1, 256, 64]⟩
abbrev S256x64 : Shape := ⟨2, ![256, 64]⟩
abbrev S1x2x256x64 : Shape := ⟨4, ![1, 2, 256, 64]⟩
abbrev S2x256x64 : Shape := ⟨3, ![2, 256, 64]⟩
abbrev S256x512 : Shape := ⟨2, ![256, 512]⟩
abbrev S72x512 : Shape := ⟨2, ![72, 512]⟩
abbrev S1x512 : Shape := ⟨2, ![1, 512]⟩
abbrev S1x1x72x256 : Shape := ⟨4, ![1, 1, 72, 256]⟩
abbrev S72x256 : Shape := ⟨2, ![72, 256]⟩
abbrev S64x2048 : Shape := ⟨2, ![64, 2048]⟩
abbrev S64x256 : Shape := ⟨2, ![64, 256]⟩

abbrev nBuf : Space → Nat
  | .hbm => 7
  | .vmem => 27
  | .smem => 0
  | _ => 0

abbrev bufTy : (tb : Table) → Fin (tcTables nBuf tb) → BufTy
  | .hbm, ⟨0, _⟩ => ⟨S8x8x4096x64, .bf16⟩
  | .hbm, ⟨1, _⟩ => ⟨S8x4096x64, .bf16⟩
  | .hbm, ⟨2, _⟩ => ⟨S8x16x72x256, .bf16⟩
  | .hbm, ⟨3, _⟩ => ⟨S8x4x4096x64, .bf16⟩
  | .hbm, ⟨4, _⟩ => ⟨S8x4096x64, .bf16⟩
  | .hbm, ⟨5, _⟩ => ⟨S8x8x4096, .f32⟩
  | .hbm, ⟨6, _⟩ => ⟨S8x4096x512, .bf16⟩
  | .local _ .vmem, ⟨0, _⟩ => ⟨S1x8x256x64, .bf16⟩
  | .local _ .vmem, ⟨1, _⟩ => ⟨S1x8x256x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x16x72x256, .bf16⟩
  | .local _ .vmem, ⟨5, _⟩ => ⟨S1x16x72x256, .bf16⟩
  | .local _ .vmem, ⟨6, _⟩ => ⟨S1x4x256x64, .bf16⟩
  | .local _ .vmem, ⟨7, _⟩ => ⟨S1x4x256x64, .bf16⟩
  | .local _ .vmem, ⟨8, _⟩ => ⟨S1x4096x64, .bf16⟩
  | .local _ .vmem, ⟨9, _⟩ => ⟨S1x4096x64, .bf16⟩
  | .local _ .vmem, ⟨10, _⟩ => ⟨S1x8x256, .f32⟩
  | .local _ .vmem, ⟨11, _⟩ => ⟨S1x8x256, .f32⟩
  | .local _ .vmem, ⟨12, _⟩ => ⟨S1x256x512, .bf16⟩
  | .local _ .vmem, ⟨13, _⟩ => ⟨S1x256x512, .bf16⟩
  | .local _ .vmem, ⟨14, _⟩ => ⟨S512x8x256, .i32⟩
  | .local _ .vmem, ⟨15, _⟩ => ⟨S32x17x8x256, .i32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x256x256, .f32⟩
  | .local _ .vmem, ⟨22, _⟩ => ⟨S256x2048, .f32⟩
  | .local _ .vmem, ⟨23, _⟩ => ⟨S256x2048, .f32⟩
  | .local _ .vmem, ⟨24, _⟩ => ⟨S256x2048, .bf16⟩
  | .local _ .vmem, ⟨25, _⟩ => ⟨S256x2048, .bf16⟩
  | .local _ .vmem, ⟨26, _⟩ => ⟨S72x2048, .f32⟩
  | _, _ => ⟨S8x8x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 16], ![false, false]⟩

@[reducible] def k0_t1_loop (i : grid0.Coords) : Scf.Loop 32 :=
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_15 : BitVec 32 := 1#32
  ⟨c0_i32_13, v40, c1_i32_15⟩
def k0_mult1 (i : grid0.Coords) (k0_t1 : Fin (k0_t1_loop i).trips) : BitVec 32 :=
  let c0_i32_13 : BitVec 32 := 0#32
  let c1_i32_15 : BitVec 32 := 1#32
  let arg22 : BitVec 32 := Scf.iv c0_i32_13 c1_i32_15 k0_t1
  let c512_i32_190 : BitVec 32 := 512#32
  let v316 : BitVec 32 := Scalar.muli arg22 c512_i32_190
  v316
def k0_off1 (i : grid0.Coords) (k0_t1 : Fin (k0_t1_loop i).trips) : Fin 3 → Nat :=
  let c0_191 : Index := 0#32
  let c0_i32_13 : BitVec 32 := 0#32
  let c1_i32_15 : BitVec 32 := 1#32
  let arg22 : BitVec 32 := Scf.iv c0_i32_13 c1_i32_15 k0_t1
  let c512_i32_190 : BitVec 32 := 512#32
  let v316 : BitVec 32 := Scalar.muli arg22 c512_i32_190
  let v317 : BitVec 32 := v316
  let v318 : Index := Scalar.indexCast v317
  let c0_192 : Index := 0#32
  ![0, v318.toNat, 0]
def k0_mult2 (i : grid0.Coords) (k0_t1 : Fin (k0_t1_loop i).trips) : BitVec 32 :=
  let c0_i32_13 : BitVec 32 := 0#32
  let c1_i32_15 : BitVec 32 := 1#32
  let arg22 : BitVec 32 := Scf.iv c0_i32_13 c1_i32_15 k0_t1
  let c64_i32 : BitVec 32 := 64#32
  let v372 : BitVec 32 := Scalar.muli arg22 c64_i32
  v372
def k0_off2 (i : grid0.Coords) (k0_t1 : Fin (k0_t1_loop i).trips) : Fin 3 → Nat :=
  let c0_i32_13 : BitVec 32 := 0#32
  let c1_i32_15 : BitVec 32 := 1#32
  let arg22 : BitVec 32 := Scf.iv c0_i32_13 c1_i32_15 k0_t1
  let c64_i32 : BitVec 32 := 64#32
  let v372 : BitVec 32 := Scalar.muli arg22 c64_i32
  let v373 : BitVec 32 := v372
  let v374 : Index := Scalar.indexCast v373
  let c0_206 : Index := 0#32
  let c0_207 : Index := 0#32
  ![v374.toNat, 0, 0]
def k0_off3 (i : grid0.Coords) (k0_t1 : Fin (k0_t1_loop i).trips) (c0_i32_473 : BitVec 32) : Fin 4 → Nat :=
  let c0_474 : Index := 0#32
  let c0_i32_13 : BitVec 32 := 0#32
  let c1_i32_15 : BitVec 32 := 1#32
  let arg22 : BitVec 32 := Scf.iv c0_i32_13 c1_i32_15 k0_t1
  let c2_i32_472 : BitVec 32 := 2#32
  let v1226 : BitVec 32 := Scalar.muli arg22 c2_i32_472
  let v1227 : BitVec 32 := Scalar.addi v1226 c0_i32_473
  let v1228 : Index := Scalar.indexCast v1227
  let c0_475 : Index := 0#32
  let c0_476 : Index := 0#32
  ![0, v1228.toNat, 0, 0]
def k0_off4 (i : grid0.Coords) (k0_t1 : Fin (k0_t1_loop i).trips) (c0_i32_478 : BitVec 32) : Fin 4 → Nat :=
  let c1 : Index := 1#32
  let c0_i32_13 : BitVec 32 := 0#32
  let c1_i32_15 : BitVec 32 := 1#32
  let arg22 : BitVec 32 := Scf.iv c0_i32_13 c1_i32_15 k0_t1
  let c2_i32_477 : BitVec 32 := 2#32
  let v1232 : BitVec 32 := Scalar.muli arg22 c2_i32_477
  let v1233 : BitVec 32 := Scalar.addi v1232 c0_i32_478
  let v1234 : Index := Scalar.indexCast v1233
  let c0_479 : Index := 0#32
  let c0_480 : Index := 0#32
  ![1, v1234.toNat, 0, 0]
def k0_off5 (i : grid0.Coords) (k0_t1 : Fin (k0_t1_loop i).trips) (c0_i32_482 : BitVec 32) : Fin 4 → Nat :=
  let c2_483 : Index := 2#32
  let c0_i32_13 : BitVec 32 := 0#32
  let c1_i32_15 : BitVec 32 := 1#32
  let arg22 : BitVec 32 := Scf.iv c0_i32_13 c1_i32_15 k0_t1
  let c2_i32_481 : BitVec 32 := 2#32
  let v1238 : BitVec 32 := Scalar.muli arg22 c2_i32_481
  let v1239 : BitVec 32 := Scalar.addi v1238 c0_i32_482
  let v1240 : Index := Scalar.indexCast v1239
  let c0_484 : Index := 0#32
  let c0_485 : Index := 0#32
  ![2, v1240.toNat, 0, 0]
def k0_off6 (i : grid0.Coords) (k0_t1 : Fin (k0_t1_loop i).trips) (c0_i32_487 : BitVec 32) : Fin 4 → Nat :=
  let c3 : Index := 3#32
  let c0_i32_13 : BitVec 32 := 0#32
  let c1_i32_15 : BitVec 32 := 1#32
  let arg22 : BitVec 32 := Scf.iv c0_i32_13 c1_i32_15 k0_t1
  let c2_i32_486 : BitVec 32 := 2#32
  let v1244 : BitVec 32 := Scalar.muli arg22 c2_i32_486
  let v1245 : BitVec 32 := Scalar.addi v1244 c0_i32_487
  let v1246 : Index := Scalar.indexCast v1245
  let c0_488 : Index := 0#32
  let c0_489 : Index := 0#32
  ![3, v1246.toNat, 0, 0]
def k0_off7 (i : grid0.Coords) (k0_t1 : Fin (k0_t1_loop i).trips) (c0_i32_491 : BitVec 32) : Fin 4 → Nat :=
  let c4_492 : Index := 4#32
  let c0_i32_13 : BitVec 32 := 0#32
  let c1_i32_15 : BitVec 32 := 1#32
  let arg22 : BitVec 32 := Scf.iv c0_i32_13 c1_i32_15 k0_t1
  let c2_i32_490 : BitVec 32 := 2#32
  let v1250 : BitVec 32 := Scalar.muli arg22 c2_i32_490
  let v1251 : BitVec 32 := Scalar.addi v1250 c0_i32_491
  let v1252 : Index := Scalar.indexCast v1251
  let c0_493 : Index := 0#32
  let c0_494 : Index := 0#32
  ![4, v1252.toNat, 0, 0]
def k0_off8 (i : grid0.Coords) (k0_t1 : Fin (k0_t1_loop i).trips) (c0_i32_496 : BitVec 32) : Fin 4 → Nat :=
  let c5 : Index := 5#32
  let c0_i32_13 : BitVec 32 := 0#32
  let c1_i32_15 : BitVec 32 := 1#32
  let arg22 : BitVec 32 := Scf.iv c0_i32_13 c1_i32_15 k0_t1
  let c2_i32_495 : BitVec 32 := 2#32
  let v1256 : BitVec 32 := Scalar.muli arg22 c2_i32_495
  let v1257 : BitVec 32 := Scalar.addi v1256 c0_i32_496
  let v1258 : Index := Scalar.indexCast v1257
  let c0_497 : Index := 0#32
  let c0_498 : Index := 0#32
  ![5, v1258.toNat, 0, 0]
def k0_off9 (i : grid0.Coords) (k0_t1 : Fin (k0_t1_loop i).trips) (c0_i32_500 : BitVec 32) : Fin 4 → Nat :=
  let c6_501 : Index := 6#32
  let c0_i32_13 : BitVec 32 := 0#32
  let c1_i32_15 : BitVec 32 := 1#32
  let arg22 : BitVec 32 := Scf.iv c0_i32_13 c1_i32_15 k0_t1
  let c2_i32_499 : BitVec 32 := 2#32
  let v1262 : BitVec 32 := Scalar.muli arg22 c2_i32_499
  let v1263 : BitVec 32 := Scalar.addi v1262 c0_i32_500
  let v1264 : Index := Scalar.indexCast v1263
  let c0_502 : Index := 0#32
  let c0_503 : Index := 0#32
  ![6, v1264.toNat, 0, 0]
def k0_off10 (i : grid0.Coords) (k0_t1 : Fin (k0_t1_loop i).trips) (c0_i32_505 : BitVec 32) : Fin 4 → Nat :=
  let c7 : Index := 7#32
  let c0_i32_13 : BitVec 32 := 0#32
  let c1_i32_15 : BitVec 32 := 1#32
  let arg22 : BitVec 32 := Scf.iv c0_i32_13 c1_i32_15 k0_t1
  let c2_i32_504 : BitVec 32 := 2#32
  let v1268 : BitVec 32 := Scalar.muli arg22 c2_i32_504
  let v1269 : BitVec 32 := Scalar.addi v1268 c0_i32_505
  let v1270 : Index := Scalar.indexCast v1269
  let c0_506 : Index := 0#32
  let c0_507 : Index := 0#32
  ![7, v1270.toNat, 0, 0]
def k0_off11 (i : grid0.Coords) (k0_t1 : Fin (k0_t1_loop i).trips) (c0_i32_509 : BitVec 32) : Fin 4 → Nat :=
  let c8 : Index := 8#32
  let c0_i32_13 : BitVec 32 := 0#32
  let c1_i32_15 : BitVec 32 := 1#32
  let arg22 : BitVec 32 := Scf.iv c0_i32_13 c1_i32_15 k0_t1
  let c2_i32_508 : BitVec 32 := 2#32
  let v1274 : BitVec 32 := Scalar.muli arg22 c2_i32_508
  let v1275 : BitVec 32 := Scalar.addi v1274 c0_i32_509
  let v1276 : Index := Scalar.indexCast v1275
  let c0_510 : Index := 0#32
  let c0_511 : Index := 0#32
  ![8, v1276.toNat, 0, 0]
def k0_off12 (i : grid0.Coords) (k0_t1 : Fin (k0_t1_loop i).trips) (c0_i32_513 : BitVec 32) : Fin 4 → Nat :=
  let c9 : Index := 9#32
  let c0_i32_13 : BitVec 32 := 0#32
  let c1_i32_15 : BitVec 32 := 1#32
  let arg22 : BitVec 32 := Scf.iv c0_i32_13 c1_i32_15 k0_t1
  let c2_i32_512 : BitVec 32 := 2#32
  let v1280 : BitVec 32 := Scalar.muli arg22 c2_i32_512
  let v1281 : BitVec 32 := Scalar.addi v1280 c0_i32_513
  let v1282 : Index := Scalar.indexCast v1281
  let c0_514 : Index := 0#32
  let c0_515 : Index := 0#32
  ![9, v1282.toNat, 0, 0]
def k0_off13 (i : grid0.Coords) (k0_t1 : Fin (k0_t1_loop i).trips) (c0_i32_517 : BitVec 32) : Fin 4 → Nat :=
  let c10 : Index := 10#32
  let c0_i32_13 : BitVec 32 := 0#32
  let c1_i32_15 : BitVec 32 := 1#32
  let arg22 : BitVec 32 := Scf.iv c0_i32_13 c1_i32_15 k0_t1
  let c2_i32_516 : BitVec 32 := 2#32
  let v1286 : BitVec 32 := Scalar.muli arg22 c2_i32_516
  let v1287 : BitVec 32 := Scalar.addi v1286 c0_i32_517
  let v1288 : Index := Scalar.indexCast v1287
  let c0_518 : Index := 0#32
  let c0_519 : Index := 0#32
  ![10, v1288.toNat, 0, 0]
def k0_off14 (i : grid0.Coords) (k0_t1 : Fin (k0_t1_loop i).trips) (c0_i32_521 : BitVec 32) : Fin 4 → Nat :=
  let c11 : Index := 11#32
  let c0_i32_13 : BitVec 32 := 0#32
  let c1_i32_15 : BitVec 32 := 1#32
  let arg22 : BitVec 32 := Scf.iv c0_i32_13 c1_i32_15 k0_t1
  let c2_i32_520 : BitVec 32 := 2#32
  let v1292 : BitVec 32 := Scalar.muli arg22 c2_i32_520
  let v1293 : BitVec 32 := Scalar.addi v1292 c0_i32_521
  let v1294 : Index := Scalar.indexCast v1293
  let c0_522 : Index := 0#32
  let c0_523 : Index := 0#32
  ![11, v1294.toNat, 0, 0]
def k0_off15 (i : grid0.Coords) (k0_t1 : Fin (k0_t1_loop i).trips) (c0_i32_525 : BitVec 32) : Fin 4 → Nat :=
  let c12 : Index := 12#32
  let c0_i32_13 : BitVec 32 := 0#32
  let c1_i32_15 : BitVec 32 := 1#32
  let arg22 : BitVec 32 := Scf.iv c0_i32_13 c1_i32_15 k0_t1
  let c2_i32_524 : BitVec 32 := 2#32
  let v1298 : BitVec 32 := Scalar.muli arg22 c2_i32_524
  let v1299 : BitVec 32 := Scalar.addi v1298 c0_i32_525
  let v1300 : Index := Scalar.indexCast v1299
  let c0_526 : Index := 0#32
  let c0_527 : Index := 0#32
  ![12, v1300.toNat, 0, 0]
def k0_off16 (i : grid0.Coords) (k0_t1 : Fin (k0_t1_loop i).trips) (c0_i32_529 : BitVec 32) : Fin 4 → Nat :=
  let c13 : Index := 13#32
  let c0_i32_13 : BitVec 32 := 0#32
  let c1_i32_15 : BitVec 32 := 1#32
  let arg22 : BitVec 32 := Scf.iv c0_i32_13 c1_i32_15 k0_t1
  let c2_i32_528 : BitVec 32 := 2#32
  let v1304 : BitVec 32 := Scalar.muli arg22 c2_i32_528
  let v1305 : BitVec 32 := Scalar.addi v1304 c0_i32_529
  let v1306 : Index := Scalar.indexCast v1305
  let c0_530 : Index := 0#32
  let c0_531 : Index := 0#32
  ![13, v1306.toNat, 0, 0]
def k0_off17 (i : grid0.Coords) (k0_t1 : Fin (k0_t1_loop i).trips) (c0_i32_533 : BitVec 32) : Fin 4 → Nat :=
  let c14 : Index := 14#32
  let c0_i32_13 : BitVec 32 := 0#32
  let c1_i32_15 : BitVec 32 := 1#32
  let arg22 : BitVec 32 := Scf.iv c0_i32_13 c1_i32_15 k0_t1
  let c2_i32_532 : BitVec 32 := 2#32
  let v1310 : BitVec 32 := Scalar.muli arg22 c2_i32_532
  let v1311 : BitVec 32 := Scalar.addi v1310 c0_i32_533
  let v1312 : Index := Scalar.indexCast v1311
  let c0_534 : Index := 0#32
  let c0_535 : Index := 0#32
  ![14, v1312.toNat, 0, 0]
def k0_off18 (i : grid0.Coords) (k0_t1 : Fin (k0_t1_loop i).trips) (c0_i32_537 : BitVec 32) : Fin 4 → Nat :=
  let c15 : Index := 15#32
  let c0_i32_13 : BitVec 32 := 0#32
  let c1_i32_15 : BitVec 32 := 1#32
  let arg22 : BitVec 32 := Scf.iv c0_i32_13 c1_i32_15 k0_t1
  let c2_i32_536 : BitVec 32 := 2#32
  let v1316 : BitVec 32 := Scalar.muli arg22 c2_i32_536
  let v1317 : BitVec 32 := Scalar.addi v1316 c0_i32_537
  let v1318 : Index := Scalar.indexCast v1317
  let c0_538 : Index := 0#32
  let c0_539 : Index := 0#32
  ![15, v1318.toNat, 0, 0]
def k0_off19 (i : grid0.Coords) (k0_t1 : Fin (k0_t1_loop i).trips) (c0_i32_541 : BitVec 32) : Fin 4 → Nat :=
  let c16 : Index := 16#32
  let c0_i32_13 : BitVec 32 := 0#32
  let c1_i32_15 : BitVec 32 := 1#32
  let arg22 : BitVec 32 := Scf.iv c0_i32_13 c1_i32_15 k0_t1
  let c2_i32_540 : BitVec 32 := 2#32
  let v1322 : BitVec 32 := Scalar.muli arg22 c2_i32_540
  let v1323 : BitVec 32 := Scalar.addi v1322 c0_i32_541
  let v1324 : Index := Scalar.indexCast v1323
  let c0_542 : Index := 0#32
  let c0_543 : Index := 0#32
  ![16, v1324.toNat, 0, 0]
def k0_off20 (i : grid0.Coords) (k0_t1 : Fin (k0_t1_loop i).trips) (c0_i32_545 : BitVec 32) : Fin 4 → Nat :=
  let c17 : Index := 17#32
  let c0_i32_13 : BitVec 32 := 0#32
  let c1_i32_15 : BitVec 32 := 1#32
  let arg22 : BitVec 32 := Scf.iv c0_i32_13 c1_i32_15 k0_t1
  let c2_i32_544 : BitVec 32 := 2#32
  let v1328 : BitVec 32 := Scalar.muli arg22 c2_i32_544
  let v1329 : BitVec 32 := Scalar.addi v1328 c0_i32_545
  let v1330 : Index := Scalar.indexCast v1329
  let c0_546 : Index := 0#32
  let c0_547 : Index := 0#32
  ![17, v1330.toNat, 0, 0]
def k0_off21 (i : grid0.Coords) (k0_t1 : Fin (k0_t1_loop i).trips) (c0_i32_549 : BitVec 32) : Fin 4 → Nat :=
  let c18 : Index := 18#32
  let c0_i32_13 : BitVec 32 := 0#32
  let c1_i32_15 : BitVec 32 := 1#32
  let arg22 : BitVec 32 := Scf.iv c0_i32_13 c1_i32_15 k0_t1
  let c2_i32_548 : BitVec 32 := 2#32
  let v1334 : BitVec 32 := Scalar.muli arg22 c2_i32_548
  let v1335 : BitVec 32 := Scalar.addi v1334 c0_i32_549
  let v1336 : Index := Scalar.indexCast v1335
  let c0_550 : Index := 0#32
  let c0_551 : Index := 0#32
  ![18, v1336.toNat, 0, 0]
def k0_off22 (i : grid0.Coords) (k0_t1 : Fin (k0_t1_loop i).trips) (c0_i32_553 : BitVec 32) : Fin 4 → Nat :=
  let c19 : Index := 19#32
  let c0_i32_13 : BitVec 32 := 0#32
  let c1_i32_15 : BitVec 32 := 1#32
  let arg22 : BitVec 32 := Scf.iv c0_i32_13 c1_i32_15 k0_t1
  let c2_i32_552 : BitVec 32 := 2#32
  let v1340 : BitVec 32 := Scalar.muli arg22 c2_i32_552
  let v1341 : BitVec 32 := Scalar.addi v1340 c0_i32_553
  let v1342 : Index := Scalar.indexCast v1341
  let c0_554 : Index := 0#32
  let c0_555 : Index := 0#32
  ![19, v1342.toNat, 0, 0]
def k0_off23 (i : grid0.Coords) (k0_t1 : Fin (k0_t1_loop i).trips) (c0_i32_557 : BitVec 32) : Fin 4 → Nat :=
  let c20 : Index := 20#32
  let c0_i32_13 : BitVec 32 := 0#32
  let c1_i32_15 : BitVec 32 := 1#32
  let arg22 : BitVec 32 := Scf.iv c0_i32_13 c1_i32_15 k0_t1
  let c2_i32_556 : BitVec 32 := 2#32
  let v1346 : BitVec 32 := Scalar.muli arg22 c2_i32_556
  let v1347 : BitVec 32 := Scalar.addi v1346 c0_i32_557
  let v1348 : Index := Scalar.indexCast v1347
  let c0_558 : Index := 0#32
  let c0_559 : Index := 0#32
  ![20, v1348.toNat, 0, 0]
def k0_off24 (i : grid0.Coords) (k0_t1 : Fin (k0_t1_loop i).trips) (c0_i32_561 : BitVec 32) : Fin 4 → Nat :=
  let c21 : Index := 21#32
  let c0_i32_13 : BitVec 32 := 0#32
  let c1_i32_15 : BitVec 32 := 1#32
  let arg22 : BitVec 32 := Scf.iv c0_i32_13 c1_i32_15 k0_t1
  let c2_i32_560 : BitVec 32 := 2#32
  let v1352 : BitVec 32 := Scalar.muli arg22 c2_i32_560
  let v1353 : BitVec 32 := Scalar.addi v1352 c0_i32_561
  let v1354 : Index := Scalar.indexCast v1353
  let c0_562 : Index := 0#32
  let c0_563 : Index := 0#32
  ![21, v1354.toNat, 0, 0]
def k0_off25 (i : grid0.Coords) (k0_t1 : Fin (k0_t1_loop i).trips) (c0_i32_565 : BitVec 32) : Fin 4 → Nat :=
  let c22 : Index := 22#32
  let c0_i32_13 : BitVec 32 := 0#32
  let c1_i32_15 : BitVec 32 := 1#32
  let arg22 : BitVec 32 := Scf.iv c0_i32_13 c1_i32_15 k0_t1
  let c2_i32_564 : BitVec 32 := 2#32
  let v1358 : BitVec 32 := Scalar.muli arg22 c2_i32_564
  let v1359 : BitVec 32 := Scalar.addi v1358 c0_i32_565
  let v1360 : Index := Scalar.indexCast v1359
  let c0_566 : Index := 0#32
  let c0_567 : Index := 0#32
  ![22, v1360.toNat, 0, 0]
def k0_off26 (i : grid0.Coords) (k0_t1 : Fin (k0_t1_loop i).trips) (c0_i32_569 : BitVec 32) : Fin 4 → Nat :=
  let c23 : Index := 23#32
  let c0_i32_13 : BitVec 32 := 0#32
  let c1_i32_15 : BitVec 32 := 1#32
  let arg22 : BitVec 32 := Scf.iv c0_i32_13 c1_i32_15 k0_t1
  let c2_i32_568 : BitVec 32 := 2#32
  let v1364 : BitVec 32 := Scalar.muli arg22 c2_i32_568
  let v1365 : BitVec 32 := Scalar.addi v1364 c0_i32_569
  let v1366 : Index := Scalar.indexCast v1365
  let c0_570 : Index := 0#32
  let c0_571 : Index := 0#32
  ![23, v1366.toNat, 0, 0]
def k0_off27 (i : grid0.Coords) (k0_t1 : Fin (k0_t1_loop i).trips) (c0_i32_573 : BitVec 32) : Fin 4 → Nat :=
  let c24 : Index := 24#32
  let c0_i32_13 : BitVec 32 := 0#32
  let c1_i32_15 : BitVec 32 := 1#32
  let arg22 : BitVec 32 := Scf.iv c0_i32_13 c1_i32_15 k0_t1
  let c2_i32_572 : BitVec 32 := 2#32
  let v1370 : BitVec 32 := Scalar.muli arg22 c2_i32_572
  let v1371 : BitVec 32 := Scalar.addi v1370 c0_i32_573
  let v1372 : Index := Scalar.indexCast v1371
  let c0_574 : Index := 0#32
  let c0_575 : Index := 0#32
  ![24, v1372.toNat, 0, 0]
def k0_off28 (i : grid0.Coords) (k0_t1 : Fin (k0_t1_loop i).trips) (c0_i32_577 : BitVec 32) : Fin 4 → Nat :=
  let c25 : Index := 25#32
  let c0_i32_13 : BitVec 32 := 0#32
  let c1_i32_15 : BitVec 32 := 1#32
  let arg22 : BitVec 32 := Scf.iv c0_i32_13 c1_i32_15 k0_t1
  let c2_i32_576 : BitVec 32 := 2#32
  let v1376 : BitVec 32 := Scalar.muli arg22 c2_i32_576
  let v1377 : BitVec 32 := Scalar.addi v1376 c0_i32_577
  let v1378 : Index := Scalar.indexCast v1377
  let c0_578 : Index := 0#32
  let c0_579 : Index := 0#32
  ![25, v1378.toNat, 0, 0]
def k0_off29 (i : grid0.Coords) (k0_t1 : Fin (k0_t1_loop i).trips) (c0_i32_581 : BitVec 32) : Fin 4 → Nat :=
  let c26 : Index := 26#32
  let c0_i32_13 : BitVec 32 := 0#32
  let c1_i32_15 : BitVec 32 := 1#32
  let arg22 : BitVec 32 := Scf.iv c0_i32_13 c1_i32_15 k0_t1
  let c2_i32_580 : BitVec 32 := 2#32
  let v1382 : BitVec 32 := Scalar.muli arg22 c2_i32_580
  let v1383 : BitVec 32 := Scalar.addi v1382 c0_i32_581
  let v1384 : Index := Scalar.indexCast v1383
  let c0_582 : Index := 0#32
  let c0_583 : Index := 0#32
  ![26, v1384.toNat, 0, 0]
def k0_off30 (i : grid0.Coords) (k0_t1 : Fin (k0_t1_loop i).trips) (c0_i32_585 : BitVec 32) : Fin 4 → Nat :=
  let c27 : Index := 27#32
  let c0_i32_13 : BitVec 32 := 0#32
  let c1_i32_15 : BitVec 32 := 1#32
  let arg22 : BitVec 32 := Scf.iv c0_i32_13 c1_i32_15 k0_t1
  let c2_i32_584 : BitVec 32 := 2#32
  let v1388 : BitVec 32 := Scalar.muli arg22 c2_i32_584
  let v1389 : BitVec 32 := Scalar.addi v1388 c0_i32_585
  let v1390 : Index := Scalar.indexCast v1389
  let c0_586 : Index := 0#32
  let c0_587 : Index := 0#32
  ![27, v1390.toNat, 0, 0]
def k0_off31 (i : grid0.Coords) (k0_t1 : Fin (k0_t1_loop i).trips) (c0_i32_589 : BitVec 32) : Fin 4 → Nat :=
  let c28 : Index := 28#32
  let c0_i32_13 : BitVec 32 := 0#32
  let c1_i32_15 : BitVec 32 := 1#32
  let arg22 : BitVec 32 := Scf.iv c0_i32_13 c1_i32_15 k0_t1
  let c2_i32_588 : BitVec 32 := 2#32
  let v1394 : BitVec 32 := Scalar.muli arg22 c2_i32_588
  let v1395 : BitVec 32 := Scalar.addi v1394 c0_i32_589
  let v1396 : Index := Scalar.indexCast v1395
  let c0_590 : Index := 0#32
  let c0_591 : Index := 0#32
  ![28, v1396.toNat, 0, 0]
def k0_off32 (i : grid0.Coords) (k0_t1 : Fin (k0_t1_loop i).trips) (c0_i32_593 : BitVec 32) : Fin 4 → Nat :=
  let c29 : Index := 29#32
  let c0_i32_13 : BitVec 32 := 0#32
  let c1_i32_15 : BitVec 32 := 1#32
  let arg22 : BitVec 32 := Scf.iv c0_i32_13 c1_i32_15 k0_t1
  let c2_i32_592 : BitVec 32 := 2#32
  let v1400 : BitVec 32 := Scalar.muli arg22 c2_i32_592
  let v1401 : BitVec 32 := Scalar.addi v1400 c0_i32_593
  let v1402 : Index := Scalar.indexCast v1401
  let c0_594 : Index := 0#32
  let c0_595 : Index := 0#32
  ![29, v1402.toNat, 0, 0]
def k0_off33 (i : grid0.Coords) (k0_t1 : Fin (k0_t1_loop i).trips) (c0_i32_597 : BitVec 32) : Fin 4 → Nat :=
  let c30 : Index := 30#32
  let c0_i32_13 : BitVec 32 := 0#32
  let c1_i32_15 : BitVec 32 := 1#32
  let arg22 : BitVec 32 := Scf.iv c0_i32_13 c1_i32_15 k0_t1
  let c2_i32_596 : BitVec 32 := 2#32
  let v1406 : BitVec 32 := Scalar.muli arg22 c2_i32_596
  let v1407 : BitVec 32 := Scalar.addi v1406 c0_i32_597
  let v1408 : Index := Scalar.indexCast v1407
  let c0_598 : Index := 0#32
  let c0_599 : Index := 0#32
  ![30, v1408.toNat, 0, 0]
def k0_off34 (i : grid0.Coords) (k0_t1 : Fin (k0_t1_loop i).trips) (c0_i32_601 : BitVec 32) : Fin 4 → Nat :=
  let c31 : Index := 31#32
  let c0_i32_13 : BitVec 32 := 0#32
  let c1_i32_15 : BitVec 32 := 1#32
  let arg22 : BitVec 32 := Scf.iv c0_i32_13 c1_i32_15 k0_t1
  let c2_i32_600 : BitVec 32 := 2#32
  let v1412 : BitVec 32 := Scalar.muli arg22 c2_i32_600
  let v1413 : BitVec 32 := Scalar.addi v1412 c0_i32_601
  let v1414 : Index := Scalar.indexCast v1413
  let c0_602 : Index := 0#32
  let c0_603 : Index := 0#32
  ![31, v1414.toNat, 0, 0]
@[reducible] def k0_t2_loop (i : grid0.Coords) : Scf.Loop 32 :=
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let v37 : BitVec 32 := Scalar.addi c0_i32_13 v36
  let c1_i32_16 : BitVec 32 := 1#32
  ⟨v40, v37, c1_i32_16⟩
def k0_mult3 (i : grid0.Coords) (k0_t2 : Fin (k0_t2_loop i).trips) : BitVec 32 :=
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c512_i32_190 : BitVec 32 := 512#32
  let v316 : BitVec 32 := Scalar.muli arg22 c512_i32_190
  v316
def k0_off35 (i : grid0.Coords) (k0_t2 : Fin (k0_t2_loop i).trips) : Fin 3 → Nat :=
  let c0_191 : Index := 0#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c512_i32_190 : BitVec 32 := 512#32
  let v316 : BitVec 32 := Scalar.muli arg22 c512_i32_190
  let v317 : BitVec 32 := v316
  let v318 : Index := Scalar.indexCast v317
  let c0_192 : Index := 0#32
  ![0, v318.toNat, 0]
def k0_mult4 (i : grid0.Coords) (k0_t2 : Fin (k0_t2_loop i).trips) : BitVec 32 :=
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c64_i32 : BitVec 32 := 64#32
  let v372 : BitVec 32 := Scalar.muli arg22 c64_i32
  v372
def k0_off36 (i : grid0.Coords) (k0_t2 : Fin (k0_t2_loop i).trips) : Fin 3 → Nat :=
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c64_i32 : BitVec 32 := 64#32
  let v372 : BitVec 32 := Scalar.muli arg22 c64_i32
  let v373 : BitVec 32 := v372
  let v374 : Index := Scalar.indexCast v373
  let c0_206 : Index := 0#32
  let c0_207 : Index := 0#32
  ![v374.toNat, 0, 0]
def k0_off37 (i : grid0.Coords) (k0_t2 : Fin (k0_t2_loop i).trips) (c0_i32_473 : BitVec 32) : Fin 4 → Nat :=
  let c0_474 : Index := 0#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_472 : BitVec 32 := 2#32
  let v1226 : BitVec 32 := Scalar.muli arg22 c2_i32_472
  let v1227 : BitVec 32 := Scalar.addi v1226 c0_i32_473
  let v1228 : Index := Scalar.indexCast v1227
  let c0_475 : Index := 0#32
  let c0_476 : Index := 0#32
  ![0, v1228.toNat, 0, 0]
def k0_off38 (i : grid0.Coords) (k0_t2 : Fin (k0_t2_loop i).trips) (c0_i32_478 : BitVec 32) : Fin 4 → Nat :=
  let c1 : Index := 1#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_477 : BitVec 32 := 2#32
  let v1232 : BitVec 32 := Scalar.muli arg22 c2_i32_477
  let v1233 : BitVec 32 := Scalar.addi v1232 c0_i32_478
  let v1234 : Index := Scalar.indexCast v1233
  let c0_479 : Index := 0#32
  let c0_480 : Index := 0#32
  ![1, v1234.toNat, 0, 0]
def k0_off39 (i : grid0.Coords) (k0_t2 : Fin (k0_t2_loop i).trips) (c0_i32_482 : BitVec 32) : Fin 4 → Nat :=
  let c2_483 : Index := 2#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_481 : BitVec 32 := 2#32
  let v1238 : BitVec 32 := Scalar.muli arg22 c2_i32_481
  let v1239 : BitVec 32 := Scalar.addi v1238 c0_i32_482
  let v1240 : Index := Scalar.indexCast v1239
  let c0_484 : Index := 0#32
  let c0_485 : Index := 0#32
  ![2, v1240.toNat, 0, 0]
def k0_off40 (i : grid0.Coords) (k0_t2 : Fin (k0_t2_loop i).trips) (c0_i32_487 : BitVec 32) : Fin 4 → Nat :=
  let c3 : Index := 3#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_486 : BitVec 32 := 2#32
  let v1244 : BitVec 32 := Scalar.muli arg22 c2_i32_486
  let v1245 : BitVec 32 := Scalar.addi v1244 c0_i32_487
  let v1246 : Index := Scalar.indexCast v1245
  let c0_488 : Index := 0#32
  let c0_489 : Index := 0#32
  ![3, v1246.toNat, 0, 0]
def k0_off41 (i : grid0.Coords) (k0_t2 : Fin (k0_t2_loop i).trips) (c0_i32_491 : BitVec 32) : Fin 4 → Nat :=
  let c4_492 : Index := 4#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_490 : BitVec 32 := 2#32
  let v1250 : BitVec 32 := Scalar.muli arg22 c2_i32_490
  let v1251 : BitVec 32 := Scalar.addi v1250 c0_i32_491
  let v1252 : Index := Scalar.indexCast v1251
  let c0_493 : Index := 0#32
  let c0_494 : Index := 0#32
  ![4, v1252.toNat, 0, 0]
def k0_off42 (i : grid0.Coords) (k0_t2 : Fin (k0_t2_loop i).trips) (c0_i32_496 : BitVec 32) : Fin 4 → Nat :=
  let c5 : Index := 5#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_495 : BitVec 32 := 2#32
  let v1256 : BitVec 32 := Scalar.muli arg22 c2_i32_495
  let v1257 : BitVec 32 := Scalar.addi v1256 c0_i32_496
  let v1258 : Index := Scalar.indexCast v1257
  let c0_497 : Index := 0#32
  let c0_498 : Index := 0#32
  ![5, v1258.toNat, 0, 0]
def k0_off43 (i : grid0.Coords) (k0_t2 : Fin (k0_t2_loop i).trips) (c0_i32_500 : BitVec 32) : Fin 4 → Nat :=
  let c6_501 : Index := 6#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_499 : BitVec 32 := 2#32
  let v1262 : BitVec 32 := Scalar.muli arg22 c2_i32_499
  let v1263 : BitVec 32 := Scalar.addi v1262 c0_i32_500
  let v1264 : Index := Scalar.indexCast v1263
  let c0_502 : Index := 0#32
  let c0_503 : Index := 0#32
  ![6, v1264.toNat, 0, 0]
def k0_off44 (i : grid0.Coords) (k0_t2 : Fin (k0_t2_loop i).trips) (c0_i32_505 : BitVec 32) : Fin 4 → Nat :=
  let c7 : Index := 7#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_504 : BitVec 32 := 2#32
  let v1268 : BitVec 32 := Scalar.muli arg22 c2_i32_504
  let v1269 : BitVec 32 := Scalar.addi v1268 c0_i32_505
  let v1270 : Index := Scalar.indexCast v1269
  let c0_506 : Index := 0#32
  let c0_507 : Index := 0#32
  ![7, v1270.toNat, 0, 0]
def k0_off45 (i : grid0.Coords) (k0_t2 : Fin (k0_t2_loop i).trips) (c0_i32_509 : BitVec 32) : Fin 4 → Nat :=
  let c8 : Index := 8#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_508 : BitVec 32 := 2#32
  let v1274 : BitVec 32 := Scalar.muli arg22 c2_i32_508
  let v1275 : BitVec 32 := Scalar.addi v1274 c0_i32_509
  let v1276 : Index := Scalar.indexCast v1275
  let c0_510 : Index := 0#32
  let c0_511 : Index := 0#32
  ![8, v1276.toNat, 0, 0]
def k0_off46 (i : grid0.Coords) (k0_t2 : Fin (k0_t2_loop i).trips) (c0_i32_513 : BitVec 32) : Fin 4 → Nat :=
  let c9 : Index := 9#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_512 : BitVec 32 := 2#32
  let v1280 : BitVec 32 := Scalar.muli arg22 c2_i32_512
  let v1281 : BitVec 32 := Scalar.addi v1280 c0_i32_513
  let v1282 : Index := Scalar.indexCast v1281
  let c0_514 : Index := 0#32
  let c0_515 : Index := 0#32
  ![9, v1282.toNat, 0, 0]
def k0_off47 (i : grid0.Coords) (k0_t2 : Fin (k0_t2_loop i).trips) (c0_i32_517 : BitVec 32) : Fin 4 → Nat :=
  let c10 : Index := 10#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_516 : BitVec 32 := 2#32
  let v1286 : BitVec 32 := Scalar.muli arg22 c2_i32_516
  let v1287 : BitVec 32 := Scalar.addi v1286 c0_i32_517
  let v1288 : Index := Scalar.indexCast v1287
  let c0_518 : Index := 0#32
  let c0_519 : Index := 0#32
  ![10, v1288.toNat, 0, 0]
def k0_off48 (i : grid0.Coords) (k0_t2 : Fin (k0_t2_loop i).trips) (c0_i32_521 : BitVec 32) : Fin 4 → Nat :=
  let c11 : Index := 11#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_520 : BitVec 32 := 2#32
  let v1292 : BitVec 32 := Scalar.muli arg22 c2_i32_520
  let v1293 : BitVec 32 := Scalar.addi v1292 c0_i32_521
  let v1294 : Index := Scalar.indexCast v1293
  let c0_522 : Index := 0#32
  let c0_523 : Index := 0#32
  ![11, v1294.toNat, 0, 0]
def k0_off49 (i : grid0.Coords) (k0_t2 : Fin (k0_t2_loop i).trips) (c0_i32_525 : BitVec 32) : Fin 4 → Nat :=
  let c12 : Index := 12#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_524 : BitVec 32 := 2#32
  let v1298 : BitVec 32 := Scalar.muli arg22 c2_i32_524
  let v1299 : BitVec 32 := Scalar.addi v1298 c0_i32_525
  let v1300 : Index := Scalar.indexCast v1299
  let c0_526 : Index := 0#32
  let c0_527 : Index := 0#32
  ![12, v1300.toNat, 0, 0]
def k0_off50 (i : grid0.Coords) (k0_t2 : Fin (k0_t2_loop i).trips) (c0_i32_529 : BitVec 32) : Fin 4 → Nat :=
  let c13 : Index := 13#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_528 : BitVec 32 := 2#32
  let v1304 : BitVec 32 := Scalar.muli arg22 c2_i32_528
  let v1305 : BitVec 32 := Scalar.addi v1304 c0_i32_529
  let v1306 : Index := Scalar.indexCast v1305
  let c0_530 : Index := 0#32
  let c0_531 : Index := 0#32
  ![13, v1306.toNat, 0, 0]
def k0_off51 (i : grid0.Coords) (k0_t2 : Fin (k0_t2_loop i).trips) (c0_i32_533 : BitVec 32) : Fin 4 → Nat :=
  let c14 : Index := 14#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_532 : BitVec 32 := 2#32
  let v1310 : BitVec 32 := Scalar.muli arg22 c2_i32_532
  let v1311 : BitVec 32 := Scalar.addi v1310 c0_i32_533
  let v1312 : Index := Scalar.indexCast v1311
  let c0_534 : Index := 0#32
  let c0_535 : Index := 0#32
  ![14, v1312.toNat, 0, 0]
def k0_off52 (i : grid0.Coords) (k0_t2 : Fin (k0_t2_loop i).trips) (c0_i32_537 : BitVec 32) : Fin 4 → Nat :=
  let c15 : Index := 15#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_536 : BitVec 32 := 2#32
  let v1316 : BitVec 32 := Scalar.muli arg22 c2_i32_536
  let v1317 : BitVec 32 := Scalar.addi v1316 c0_i32_537
  let v1318 : Index := Scalar.indexCast v1317
  let c0_538 : Index := 0#32
  let c0_539 : Index := 0#32
  ![15, v1318.toNat, 0, 0]
def k0_off53 (i : grid0.Coords) (k0_t2 : Fin (k0_t2_loop i).trips) (c0_i32_541 : BitVec 32) : Fin 4 → Nat :=
  let c16 : Index := 16#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_540 : BitVec 32 := 2#32
  let v1322 : BitVec 32 := Scalar.muli arg22 c2_i32_540
  let v1323 : BitVec 32 := Scalar.addi v1322 c0_i32_541
  let v1324 : Index := Scalar.indexCast v1323
  let c0_542 : Index := 0#32
  let c0_543 : Index := 0#32
  ![16, v1324.toNat, 0, 0]
def k0_off54 (i : grid0.Coords) (k0_t2 : Fin (k0_t2_loop i).trips) (c0_i32_545 : BitVec 32) : Fin 4 → Nat :=
  let c17 : Index := 17#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_544 : BitVec 32 := 2#32
  let v1328 : BitVec 32 := Scalar.muli arg22 c2_i32_544
  let v1329 : BitVec 32 := Scalar.addi v1328 c0_i32_545
  let v1330 : Index := Scalar.indexCast v1329
  let c0_546 : Index := 0#32
  let c0_547 : Index := 0#32
  ![17, v1330.toNat, 0, 0]
def k0_off55 (i : grid0.Coords) (k0_t2 : Fin (k0_t2_loop i).trips) (c0_i32_549 : BitVec 32) : Fin 4 → Nat :=
  let c18 : Index := 18#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_548 : BitVec 32 := 2#32
  let v1334 : BitVec 32 := Scalar.muli arg22 c2_i32_548
  let v1335 : BitVec 32 := Scalar.addi v1334 c0_i32_549
  let v1336 : Index := Scalar.indexCast v1335
  let c0_550 : Index := 0#32
  let c0_551 : Index := 0#32
  ![18, v1336.toNat, 0, 0]
def k0_off56 (i : grid0.Coords) (k0_t2 : Fin (k0_t2_loop i).trips) (c0_i32_553 : BitVec 32) : Fin 4 → Nat :=
  let c19 : Index := 19#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_552 : BitVec 32 := 2#32
  let v1340 : BitVec 32 := Scalar.muli arg22 c2_i32_552
  let v1341 : BitVec 32 := Scalar.addi v1340 c0_i32_553
  let v1342 : Index := Scalar.indexCast v1341
  let c0_554 : Index := 0#32
  let c0_555 : Index := 0#32
  ![19, v1342.toNat, 0, 0]
def k0_off57 (i : grid0.Coords) (k0_t2 : Fin (k0_t2_loop i).trips) (c0_i32_557 : BitVec 32) : Fin 4 → Nat :=
  let c20 : Index := 20#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_556 : BitVec 32 := 2#32
  let v1346 : BitVec 32 := Scalar.muli arg22 c2_i32_556
  let v1347 : BitVec 32 := Scalar.addi v1346 c0_i32_557
  let v1348 : Index := Scalar.indexCast v1347
  let c0_558 : Index := 0#32
  let c0_559 : Index := 0#32
  ![20, v1348.toNat, 0, 0]
def k0_off58 (i : grid0.Coords) (k0_t2 : Fin (k0_t2_loop i).trips) (c0_i32_561 : BitVec 32) : Fin 4 → Nat :=
  let c21 : Index := 21#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_560 : BitVec 32 := 2#32
  let v1352 : BitVec 32 := Scalar.muli arg22 c2_i32_560
  let v1353 : BitVec 32 := Scalar.addi v1352 c0_i32_561
  let v1354 : Index := Scalar.indexCast v1353
  let c0_562 : Index := 0#32
  let c0_563 : Index := 0#32
  ![21, v1354.toNat, 0, 0]
def k0_off59 (i : grid0.Coords) (k0_t2 : Fin (k0_t2_loop i).trips) (c0_i32_565 : BitVec 32) : Fin 4 → Nat :=
  let c22 : Index := 22#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_564 : BitVec 32 := 2#32
  let v1358 : BitVec 32 := Scalar.muli arg22 c2_i32_564
  let v1359 : BitVec 32 := Scalar.addi v1358 c0_i32_565
  let v1360 : Index := Scalar.indexCast v1359
  let c0_566 : Index := 0#32
  let c0_567 : Index := 0#32
  ![22, v1360.toNat, 0, 0]
def k0_off60 (i : grid0.Coords) (k0_t2 : Fin (k0_t2_loop i).trips) (c0_i32_569 : BitVec 32) : Fin 4 → Nat :=
  let c23 : Index := 23#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_568 : BitVec 32 := 2#32
  let v1364 : BitVec 32 := Scalar.muli arg22 c2_i32_568
  let v1365 : BitVec 32 := Scalar.addi v1364 c0_i32_569
  let v1366 : Index := Scalar.indexCast v1365
  let c0_570 : Index := 0#32
  let c0_571 : Index := 0#32
  ![23, v1366.toNat, 0, 0]
def k0_off61 (i : grid0.Coords) (k0_t2 : Fin (k0_t2_loop i).trips) (c0_i32_573 : BitVec 32) : Fin 4 → Nat :=
  let c24 : Index := 24#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_572 : BitVec 32 := 2#32
  let v1370 : BitVec 32 := Scalar.muli arg22 c2_i32_572
  let v1371 : BitVec 32 := Scalar.addi v1370 c0_i32_573
  let v1372 : Index := Scalar.indexCast v1371
  let c0_574 : Index := 0#32
  let c0_575 : Index := 0#32
  ![24, v1372.toNat, 0, 0]
def k0_off62 (i : grid0.Coords) (k0_t2 : Fin (k0_t2_loop i).trips) (c0_i32_577 : BitVec 32) : Fin 4 → Nat :=
  let c25 : Index := 25#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_576 : BitVec 32 := 2#32
  let v1376 : BitVec 32 := Scalar.muli arg22 c2_i32_576
  let v1377 : BitVec 32 := Scalar.addi v1376 c0_i32_577
  let v1378 : Index := Scalar.indexCast v1377
  let c0_578 : Index := 0#32
  let c0_579 : Index := 0#32
  ![25, v1378.toNat, 0, 0]
def k0_off63 (i : grid0.Coords) (k0_t2 : Fin (k0_t2_loop i).trips) (c0_i32_581 : BitVec 32) : Fin 4 → Nat :=
  let c26 : Index := 26#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_580 : BitVec 32 := 2#32
  let v1382 : BitVec 32 := Scalar.muli arg22 c2_i32_580
  let v1383 : BitVec 32 := Scalar.addi v1382 c0_i32_581
  let v1384 : Index := Scalar.indexCast v1383
  let c0_582 : Index := 0#32
  let c0_583 : Index := 0#32
  ![26, v1384.toNat, 0, 0]
def k0_off64 (i : grid0.Coords) (k0_t2 : Fin (k0_t2_loop i).trips) (c0_i32_585 : BitVec 32) : Fin 4 → Nat :=
  let c27 : Index := 27#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_584 : BitVec 32 := 2#32
  let v1388 : BitVec 32 := Scalar.muli arg22 c2_i32_584
  let v1389 : BitVec 32 := Scalar.addi v1388 c0_i32_585
  let v1390 : Index := Scalar.indexCast v1389
  let c0_586 : Index := 0#32
  let c0_587 : Index := 0#32
  ![27, v1390.toNat, 0, 0]
def k0_off65 (i : grid0.Coords) (k0_t2 : Fin (k0_t2_loop i).trips) (c0_i32_589 : BitVec 32) : Fin 4 → Nat :=
  let c28 : Index := 28#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_588 : BitVec 32 := 2#32
  let v1394 : BitVec 32 := Scalar.muli arg22 c2_i32_588
  let v1395 : BitVec 32 := Scalar.addi v1394 c0_i32_589
  let v1396 : Index := Scalar.indexCast v1395
  let c0_590 : Index := 0#32
  let c0_591 : Index := 0#32
  ![28, v1396.toNat, 0, 0]
def k0_off66 (i : grid0.Coords) (k0_t2 : Fin (k0_t2_loop i).trips) (c0_i32_593 : BitVec 32) : Fin 4 → Nat :=
  let c29 : Index := 29#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_592 : BitVec 32 := 2#32
  let v1400 : BitVec 32 := Scalar.muli arg22 c2_i32_592
  let v1401 : BitVec 32 := Scalar.addi v1400 c0_i32_593
  let v1402 : Index := Scalar.indexCast v1401
  let c0_594 : Index := 0#32
  let c0_595 : Index := 0#32
  ![29, v1402.toNat, 0, 0]
def k0_off67 (i : grid0.Coords) (k0_t2 : Fin (k0_t2_loop i).trips) (c0_i32_597 : BitVec 32) : Fin 4 → Nat :=
  let c30 : Index := 30#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_596 : BitVec 32 := 2#32
  let v1406 : BitVec 32 := Scalar.muli arg22 c2_i32_596
  let v1407 : BitVec 32 := Scalar.addi v1406 c0_i32_597
  let v1408 : Index := Scalar.indexCast v1407
  let c0_598 : Index := 0#32
  let c0_599 : Index := 0#32
  ![30, v1408.toNat, 0, 0]
def k0_off68 (i : grid0.Coords) (k0_t2 : Fin (k0_t2_loop i).trips) (c0_i32_601 : BitVec 32) : Fin 4 → Nat :=
  let c31 : Index := 31#32
  let c0_i32_13 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v36 : BitVec 32 := Scalar.subi v20 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg22 : BitVec 32 := Scf.iv v40 c1_i32_16 k0_t2
  let c2_i32_600 : BitVec 32 := 2#32
  let v1412 : BitVec 32 := Scalar.muli arg22 c2_i32_600
  let v1413 : BitVec 32 := Scalar.addi v1412 c0_i32_601
  let v1414 : Index := Scalar.indexCast v1413
  let c0_602 : Index := 0#32
  let c0_603 : Index := 0#32
  ![31, v1414.toNat, 0, 0]
def k0_cond2 (i : grid0.Coords) : BitVec 1 :=
  let arg1 : BitVec 32 := BitVec.ofNat 32 (i 1).val
  let c256_i32 : BitVec 32 := 256#32
  let v0 : BitVec 32 := Scalar.muli arg1 c256_i32
  let c256_i32_17 : BitVec 32 := 256#32
  let v42 : BitVec 32 := Scalar.addi v0 c256_i32_17
  let c256_i32_18 : BitVec 32 := 256#32
  let v43 : BitVec 1 := Scalar.cmpi .sle v42 c256_i32_18
  let v44 : BitVec 32 := Scalar.extui v43
  let c0_i32_19 : BitVec 32 := 0#32
  let v45 : BitVec 1 := Scalar.cmpi .ne v44 c0_i32_19
  v45

@[reducible] def k0_t3_loop : Scf.Loop 32 :=
  let c0_i32_193 : BitVec 32 := 0#32
  let c32_i32_194 : BitVec 32 := 32#32
  let v324 : BitVec 32 := Scalar.addi c0_i32_193 c32_i32_194
  let c1_i32_195 : BitVec 32 := 1#32
  ⟨c0_i32_193, v324, c1_i32_195⟩
def k0_off69 (k0_t3 : Fin k0_t3_loop.trips) : Fin 4 → Nat :=
  let c31_i32_261 : BitVec 32 := 31#32
  let c0_i32_193 : BitVec 32 := 0#32
  let c1_i32_195 : BitVec 32 := 1#32
  let arg22 : BitVec 32 := Scf.iv c0_i32_193 c1_i32_195 k0_t3
  let v687 : BitVec 32 := Scalar.subi c31_i32_261 arg22
  let v688 : Index := Scalar.indexCast v687
  let c0_262 : Index := 0#32
  let c0_263 : Index := 0#32
  let c0_264 : Index := 0#32
  ![v688.toNat, 0, 0, 0]
def k0_mult5 (i : grid0.Coords) : BitVec 32 :=
  let c0_i32_34 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v70 : BitVec 32 := Scalar.minsi c0_i32_34 v53
  let c32_i32 : BitVec 32 := 32#32
  let v71 : BitVec 32 := Scalar.muli v70 c32_i32
  v71
def k0_off70 (i : grid0.Coords) : Fin 3 → Nat :=
  let c0_i32_34 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v70 : BitVec 32 := Scalar.minsi c0_i32_34 v53
  let c32_i32 : BitVec 32 := 32#32
  let v71 : BitVec 32 := Scalar.muli v70 c32_i32
  let v72 : BitVec 32 := v71
  let v73 : Index := Scalar.indexCast v72
  let c0_35 : Index := 0#32
  let c0_36 : Index := 0#32
  ![v73.toNat, 0, 0]
def k0_mult6 (i : grid0.Coords) : BitVec 32 :=
  let c0_i32_34 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v70 : BitVec 32 := Scalar.minsi c0_i32_34 v53
  let c256_i32_46 : BitVec 32 := 256#32
  let v108 : BitVec 32 := Scalar.muli v70 c256_i32_46
  v108
def k0_off71 (i : grid0.Coords) : Fin 3 → Nat :=
  let c0_47 : Index := 0#32
  let c0_i32_34 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v70 : BitVec 32 := Scalar.minsi c0_i32_34 v53
  let c256_i32_46 : BitVec 32 := 256#32
  let v108 : BitVec 32 := Scalar.muli v70 c256_i32_46
  let v109 : BitVec 32 := v108
  let v110 : Index := Scalar.indexCast v109
  let c0_48 : Index := 0#32
  ![0, v110.toNat, 0]
def k0_mult7 (i : grid0.Coords) : BitVec 32 :=
  let c0_i32_34 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v70 : BitVec 32 := Scalar.minsi c0_i32_34 v53
  let c256_i32_69 : BitVec 32 := 256#32
  let v141 : BitVec 32 := Scalar.muli v70 c256_i32_69
  v141
def k0_mult8 (i : grid0.Coords) : BitVec 32 :=
  let c0_i32_34 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v70 : BitVec 32 := Scalar.minsi c0_i32_34 v53
  let c256_i32_90 : BitVec 32 := 256#32
  let v174 : BitVec 32 := Scalar.muli v70 c256_i32_90
  v174
def k0_mult9 (i : grid0.Coords) : BitVec 32 :=
  let c0_i32_34 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v70 : BitVec 32 := Scalar.minsi c0_i32_34 v53
  let c256_i32_111 : BitVec 32 := 256#32
  let v207 : BitVec 32 := Scalar.muli v70 c256_i32_111
  v207
@[reducible] def k0_t4_loop (i : grid0.Coords) : Scf.Loop 32 :=
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_135 : BitVec 32 := 1#32
  ⟨c0_i32_133, v244, c1_i32_135⟩
def k0_mult10 (i : grid0.Coords) (k0_t4 : Fin (k0_t4_loop i).trips) : BitVec 32 :=
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let c1_i32_191 : BitVec 32 := 1#32
  let v317 : BitVec 32 := Scalar.addi v316 c1_i32_191
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v320 : BitVec 32 := Scalar.minsi v317 v53
  let c32_i32_194 : BitVec 32 := 32#32
  let v321 : BitVec 32 := Scalar.muli v320 c32_i32_194
  v321
def k0_off72 (i : grid0.Coords) (k0_t4 : Fin (k0_t4_loop i).trips) (c1_i32_191 : BitVec 32) : Fin 3 → Nat :=
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let v317 : BitVec 32 := Scalar.addi v316 c1_i32_191
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v320 : BitVec 32 := Scalar.minsi v317 v53
  let c32_i32_194 : BitVec 32 := 32#32
  let v321 : BitVec 32 := Scalar.muli v320 c32_i32_194
  let v322 : BitVec 32 := v321
  let v323 : Index := Scalar.indexCast v322
  let c0_195 : Index := 0#32
  let c0_196 : Index := 0#32
  ![v323.toNat, 0, 0]
def k0_mult11 (i : grid0.Coords) (k0_t4 : Fin (k0_t4_loop i).trips) : BitVec 32 :=
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let c1_i32_191 : BitVec 32 := 1#32
  let v317 : BitVec 32 := Scalar.addi v316 c1_i32_191
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v320 : BitVec 32 := Scalar.minsi v317 v53
  let c256_i32_207 : BitVec 32 := 256#32
  let v358 : BitVec 32 := Scalar.muli v320 c256_i32_207
  v358
def k0_off73 (i : grid0.Coords) (k0_t4 : Fin (k0_t4_loop i).trips) (c1_i32_191 : BitVec 32) : Fin 3 → Nat :=
  let c0_208 : Index := 0#32
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let v317 : BitVec 32 := Scalar.addi v316 c1_i32_191
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v320 : BitVec 32 := Scalar.minsi v317 v53
  let c256_i32_207 : BitVec 32 := 256#32
  let v358 : BitVec 32 := Scalar.muli v320 c256_i32_207
  let v359 : BitVec 32 := v358
  let v360 : Index := Scalar.indexCast v359
  let c0_209 : Index := 0#32
  ![0, v360.toNat, 0]
def k0_off74 (i : grid0.Coords) (k0_t4 : Fin (k0_t4_loop i).trips) : Fin 4 → Nat :=
  let c0_219 : Index := 0#32
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let c1_i32_192 : BitVec 32 := 1#32
  let v318 : BitVec 32 := Scalar.subi v316 c1_i32_192
  let c0_i32_193 : BitVec 32 := 0#32
  let v319 : BitVec 32 := Scalar.maxsi v318 c0_i32_193
  let v371 : Index := Scalar.indexCast v319
  let c0_220 : Index := 0#32
  let c0_221 : Index := 0#32
  ![0, v371.toNat, 0, 0]
def k0_mult12 (i : grid0.Coords) (k0_t4 : Fin (k0_t4_loop i).trips) : BitVec 32 :=
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let c1_i32_191 : BitVec 32 := 1#32
  let v317 : BitVec 32 := Scalar.addi v316 c1_i32_191
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v320 : BitVec 32 := Scalar.minsi v317 v53
  let c256_i32_255 : BitVec 32 := 256#32
  let v423 : BitVec 32 := Scalar.muli v320 c256_i32_255
  v423
def k0_mult13 (i : grid0.Coords) (k0_t4 : Fin (k0_t4_loop i).trips) : BitVec 32 :=
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let c1_i32_191 : BitVec 32 := 1#32
  let v317 : BitVec 32 := Scalar.addi v316 c1_i32_191
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v320 : BitVec 32 := Scalar.minsi v317 v53
  let c256_i32_303 : BitVec 32 := 256#32
  let v488 : BitVec 32 := Scalar.muli v320 c256_i32_303
  v488
def k0_mult14 (i : grid0.Coords) (k0_t4 : Fin (k0_t4_loop i).trips) : BitVec 32 :=
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let c1_i32_191 : BitVec 32 := 1#32
  let v317 : BitVec 32 := Scalar.addi v316 c1_i32_191
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v320 : BitVec 32 := Scalar.minsi v317 v53
  let c256_i32_351 : BitVec 32 := 256#32
  let v553 : BitVec 32 := Scalar.muli v320 c256_i32_351
  v553
def k0_mult15 (i : grid0.Coords) (k0_t4 : Fin (k0_t4_loop i).trips) : BitVec 32 :=
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let c2_i32_399 : BitVec 32 := 2#32
  let v618 : BitVec 32 := Scalar.addi v316 c2_i32_399
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v619 : BitVec 32 := Scalar.minsi v618 v53
  let c32_i32_400 : BitVec 32 := 32#32
  let v620 : BitVec 32 := Scalar.muli v619 c32_i32_400
  v620
def k0_mult16 (i : grid0.Coords) (k0_t4 : Fin (k0_t4_loop i).trips) : BitVec 32 :=
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let c2_i32_399 : BitVec 32 := 2#32
  let v618 : BitVec 32 := Scalar.addi v316 c2_i32_399
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v619 : BitVec 32 := Scalar.minsi v618 v53
  let c256_i32_413 : BitVec 32 := 256#32
  let v657 : BitVec 32 := Scalar.muli v619 c256_i32_413
  v657
def k0_off75 (i : grid0.Coords) (k0_t4 : Fin (k0_t4_loop i).trips) : Fin 4 → Nat :=
  let c0_425 : Index := 0#32
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let v670 : Index := Scalar.indexCast v316
  let c0_426 : Index := 0#32
  let c0_427 : Index := 0#32
  ![0, v670.toNat, 0, 0]
def k0_mult17 (i : grid0.Coords) (k0_t4 : Fin (k0_t4_loop i).trips) : BitVec 32 :=
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let c2_i32_399 : BitVec 32 := 2#32
  let v618 : BitVec 32 := Scalar.addi v316 c2_i32_399
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v619 : BitVec 32 := Scalar.minsi v618 v53
  let c256_i32_461 : BitVec 32 := 256#32
  let v722 : BitVec 32 := Scalar.muli v619 c256_i32_461
  v722
def k0_mult18 (i : grid0.Coords) (k0_t4 : Fin (k0_t4_loop i).trips) : BitVec 32 :=
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let c2_i32_399 : BitVec 32 := 2#32
  let v618 : BitVec 32 := Scalar.addi v316 c2_i32_399
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v619 : BitVec 32 := Scalar.minsi v618 v53
  let c256_i32_509 : BitVec 32 := 256#32
  let v787 : BitVec 32 := Scalar.muli v619 c256_i32_509
  v787
def k0_mult19 (i : grid0.Coords) (k0_t4 : Fin (k0_t4_loop i).trips) : BitVec 32 :=
  let c2_i32_190 : BitVec 32 := 2#32
  let c0_i32_133 : BitVec 32 := 0#32
  let c1_i32_135 : BitVec 32 := 1#32
  let arg22 : BitVec 32 := Scf.iv c0_i32_133 c1_i32_135 k0_t4
  let v316 : BitVec 32 := Scalar.muli c2_i32_190 arg22
  let c2_i32_399 : BitVec 32 := 2#32
  let v618 : BitVec 32 := Scalar.addi v316 c2_i32_399
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v619 : BitVec 32 := Scalar.minsi v618 v53
  let c256_i32_557 : BitVec 32 := 256#32
  let v852 : BitVec 32 := Scalar.muli v619 c256_i32_557
  v852
@[reducible] def k0_t5_loop (i : grid0.Coords) : Scf.Loop 32 :=
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let v241 : BitVec 32 := Scalar.addi c0_i32_133 v240
  let c1_i32_136 : BitVec 32 := 1#32
  ⟨v244, v241, c1_i32_136⟩
def k0_mult20 (i : grid0.Coords) (k0_t5 : Fin (k0_t5_loop i).trips) : BitVec 32 :=
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let c1_i32_191 : BitVec 32 := 1#32
  let v317 : BitVec 32 := Scalar.addi v316 c1_i32_191
  let c2_i32 : BitVec 32 := 2#32
  let v52 : BitVec 32 := Scalar.muli c2_i32 v51
  let c1_i32_21 : BitVec 32 := 1#32
  let v53 : BitVec 32 := Scalar.subi v52 c1_i32_21
  let v320 : BitVec 32 := Scalar.minsi v317 v53
  let c32_i32_194 : BitVec 32 := 32#32
  let v321 : BitVec 32 := Scalar.muli v320 c32_i32_194
  v321
def k0_off76 (i : grid0.Coords) (k0_t5 : Fin (k0_t5_loop i).trips) (c1_i32_191 : BitVec 32) : Fin 3 → Nat :=
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let v317 : BitVec 32 := Scalar.addi v316 c1_i32_191
  let c2_i32 : BitVec 32 := 2#32
  let v52 : BitVec 32 := Scalar.muli c2_i32 v51
  let c1_i32_21 : BitVec 32 := 1#32
  let v53 : BitVec 32 := Scalar.subi v52 c1_i32_21
  let v320 : BitVec 32 := Scalar.minsi v317 v53
  let c32_i32_194 : BitVec 32 := 32#32
  let v321 : BitVec 32 := Scalar.muli v320 c32_i32_194
  let v322 : BitVec 32 := v321
  let v323 : Index := Scalar.indexCast v322
  let c0_195 : Index := 0#32
  let c0_196 : Index := 0#32
  ![v323.toNat, 0, 0]
def k0_mult21 (i : grid0.Coords) (k0_t5 : Fin (k0_t5_loop i).trips) : BitVec 32 :=
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let c1_i32_191 : BitVec 32 := 1#32
  let v317 : BitVec 32 := Scalar.addi v316 c1_i32_191
  let c2_i32 : BitVec 32 := 2#32
  let v52 : BitVec 32 := Scalar.muli c2_i32 v51
  let c1_i32_21 : BitVec 32 := 1#32
  let v53 : BitVec 32 := Scalar.subi v52 c1_i32_21
  let v320 : BitVec 32 := Scalar.minsi v317 v53
  let c256_i32_207 : BitVec 32 := 256#32
  let v358 : BitVec 32 := Scalar.muli v320 c256_i32_207
  v358
def k0_off77 (i : grid0.Coords) (k0_t5 : Fin (k0_t5_loop i).trips) (c1_i32_191 : BitVec 32) : Fin 3 → Nat :=
  let c0_208 : Index := 0#32
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let v317 : BitVec 32 := Scalar.addi v316 c1_i32_191
  let c2_i32 : BitVec 32 := 2#32
  let v52 : BitVec 32 := Scalar.muli c2_i32 v51
  let c1_i32_21 : BitVec 32 := 1#32
  let v53 : BitVec 32 := Scalar.subi v52 c1_i32_21
  let v320 : BitVec 32 := Scalar.minsi v317 v53
  let c256_i32_207 : BitVec 32 := 256#32
  let v358 : BitVec 32 := Scalar.muli v320 c256_i32_207
  let v359 : BitVec 32 := v358
  let v360 : Index := Scalar.indexCast v359
  let c0_209 : Index := 0#32
  ![0, v360.toNat, 0]
def k0_off78 (i : grid0.Coords) (k0_t5 : Fin (k0_t5_loop i).trips) : Fin 4 → Nat :=
  let c0_219 : Index := 0#32
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let c1_i32_192 : BitVec 32 := 1#32
  let v318 : BitVec 32 := Scalar.subi v316 c1_i32_192
  let c0_i32_193 : BitVec 32 := 0#32
  let v319 : BitVec 32 := Scalar.maxsi v318 c0_i32_193
  let v371 : Index := Scalar.indexCast v319
  let c0_220 : Index := 0#32
  let c0_221 : Index := 0#32
  ![0, v371.toNat, 0, 0]
def k0_mult22 (i : grid0.Coords) (k0_t5 : Fin (k0_t5_loop i).trips) : BitVec 32 :=
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let c1_i32_191 : BitVec 32 := 1#32
  let v317 : BitVec 32 := Scalar.addi v316 c1_i32_191
  let c2_i32 : BitVec 32 := 2#32
  let v52 : BitVec 32 := Scalar.muli c2_i32 v51
  let c1_i32_21 : BitVec 32 := 1#32
  let v53 : BitVec 32 := Scalar.subi v52 c1_i32_21
  let v320 : BitVec 32 := Scalar.minsi v317 v53
  let c256_i32_255 : BitVec 32 := 256#32
  let v423 : BitVec 32 := Scalar.muli v320 c256_i32_255
  v423
def k0_mult23 (i : grid0.Coords) (k0_t5 : Fin (k0_t5_loop i).trips) : BitVec 32 :=
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let c1_i32_191 : BitVec 32 := 1#32
  let v317 : BitVec 32 := Scalar.addi v316 c1_i32_191
  let c2_i32 : BitVec 32 := 2#32
  let v52 : BitVec 32 := Scalar.muli c2_i32 v51
  let c1_i32_21 : BitVec 32 := 1#32
  let v53 : BitVec 32 := Scalar.subi v52 c1_i32_21
  let v320 : BitVec 32 := Scalar.minsi v317 v53
  let c256_i32_303 : BitVec 32 := 256#32
  let v488 : BitVec 32 := Scalar.muli v320 c256_i32_303
  v488
def k0_mult24 (i : grid0.Coords) (k0_t5 : Fin (k0_t5_loop i).trips) : BitVec 32 :=
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let c1_i32_191 : BitVec 32 := 1#32
  let v317 : BitVec 32 := Scalar.addi v316 c1_i32_191
  let c2_i32 : BitVec 32 := 2#32
  let v52 : BitVec 32 := Scalar.muli c2_i32 v51
  let c1_i32_21 : BitVec 32 := 1#32
  let v53 : BitVec 32 := Scalar.subi v52 c1_i32_21
  let v320 : BitVec 32 := Scalar.minsi v317 v53
  let c256_i32_351 : BitVec 32 := 256#32
  let v553 : BitVec 32 := Scalar.muli v320 c256_i32_351
  v553
def k0_mult25 (i : grid0.Coords) (k0_t5 : Fin (k0_t5_loop i).trips) : BitVec 32 :=
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let c2_i32_399 : BitVec 32 := 2#32
  let v618 : BitVec 32 := Scalar.addi v316 c2_i32_399
  let c2_i32 : BitVec 32 := 2#32
  let v52 : BitVec 32 := Scalar.muli c2_i32 v51
  let c1_i32_21 : BitVec 32 := 1#32
  let v53 : BitVec 32 := Scalar.subi v52 c1_i32_21
  let v619 : BitVec 32 := Scalar.minsi v618 v53
  let c32_i32_400 : BitVec 32 := 32#32
  let v620 : BitVec 32 := Scalar.muli v619 c32_i32_400
  v620
def k0_mult26 (i : grid0.Coords) (k0_t5 : Fin (k0_t5_loop i).trips) : BitVec 32 :=
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let c2_i32_399 : BitVec 32 := 2#32
  let v618 : BitVec 32 := Scalar.addi v316 c2_i32_399
  let c2_i32 : BitVec 32 := 2#32
  let v52 : BitVec 32 := Scalar.muli c2_i32 v51
  let c1_i32_21 : BitVec 32 := 1#32
  let v53 : BitVec 32 := Scalar.subi v52 c1_i32_21
  let v619 : BitVec 32 := Scalar.minsi v618 v53
  let c256_i32_413 : BitVec 32 := 256#32
  let v657 : BitVec 32 := Scalar.muli v619 c256_i32_413
  v657
def k0_off79 (i : grid0.Coords) (k0_t5 : Fin (k0_t5_loop i).trips) : Fin 4 → Nat :=
  let c0_425 : Index := 0#32
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let v670 : Index := Scalar.indexCast v316
  let c0_426 : Index := 0#32
  let c0_427 : Index := 0#32
  ![0, v670.toNat, 0, 0]
def k0_mult27 (i : grid0.Coords) (k0_t5 : Fin (k0_t5_loop i).trips) : BitVec 32 :=
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let c2_i32_399 : BitVec 32 := 2#32
  let v618 : BitVec 32 := Scalar.addi v316 c2_i32_399
  let c2_i32 : BitVec 32 := 2#32
  let v52 : BitVec 32 := Scalar.muli c2_i32 v51
  let c1_i32_21 : BitVec 32 := 1#32
  let v53 : BitVec 32 := Scalar.subi v52 c1_i32_21
  let v619 : BitVec 32 := Scalar.minsi v618 v53
  let c256_i32_461 : BitVec 32 := 256#32
  let v722 : BitVec 32 := Scalar.muli v619 c256_i32_461
  v722
def k0_mult28 (i : grid0.Coords) (k0_t5 : Fin (k0_t5_loop i).trips) : BitVec 32 :=
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let c2_i32_399 : BitVec 32 := 2#32
  let v618 : BitVec 32 := Scalar.addi v316 c2_i32_399
  let c2_i32 : BitVec 32 := 2#32
  let v52 : BitVec 32 := Scalar.muli c2_i32 v51
  let c1_i32_21 : BitVec 32 := 1#32
  let v53 : BitVec 32 := Scalar.subi v52 c1_i32_21
  let v619 : BitVec 32 := Scalar.minsi v618 v53
  let c256_i32_509 : BitVec 32 := 256#32
  let v787 : BitVec 32 := Scalar.muli v619 c256_i32_509
  v787
def k0_mult29 (i : grid0.Coords) (k0_t5 : Fin (k0_t5_loop i).trips) : BitVec 32 :=
  let c2_i32_190 : BitVec 32 := 2#32
  let c0_i32_133 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v240 : BitVec 32 := Scalar.subi v51 c0_i32_133
  let c1_i32_134 : BitVec 32 := 1#32
  let v242 : BitVec 32 := Scalar.divsi v240 c1_i32_134
  let v243 : BitVec 32 := Scalar.muli v242 c1_i32_134
  let v244 : BitVec 32 := Scalar.addi c0_i32_133 v243
  let c1_i32_136 : BitVec 32 := 1#32
  let arg22 : BitVec 32 := Scf.iv v244 c1_i32_136 k0_t5
  let v316 : BitVec 32 := Scalar.muli c2_i32_190 arg22
  let c2_i32_399 : BitVec 32 := 2#32
  let v618 : BitVec 32 := Scalar.addi v316 c2_i32_399
  let c2_i32 : BitVec 32 := 2#32
  let v52 : BitVec 32 := Scalar.muli c2_i32 v51
  let c1_i32_21 : BitVec 32 := 1#32
  let v53 : BitVec 32 := Scalar.subi v52 c1_i32_21
  let v619 : BitVec 32 := Scalar.minsi v618 v53
  let c256_i32_557 : BitVec 32 := 256#32
  let v852 : BitVec 32 := Scalar.muli v619 c256_i32_557
  v852
def k0_off80 (i : grid0.Coords) : Fin 4 → Nat :=
  let c0_141 : Index := 0#32
  let c2_i32 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v51 : BitVec 32 := Scalar.muli v20 c1_i32_20
  let v52 : BitVec 32 := Scalar.muli c2_i32 v51
  let c1_i32_21 : BitVec 32 := 1#32
  let v53 : BitVec 32 := Scalar.subi v52 c1_i32_21
  let v249 : Index := Scalar.indexCast v53
  let c0_142 : Index := 0#32
  let c0_143 : Index := 0#32
  ![0, v249.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x72x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x512x1024, .f32⟩
  | .local _ .vmem, ⟨7, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S_, .f32⟩
  | .hbm, ⟨25, _⟩ => ⟨S8x4096x2816, .f32⟩
  | .hbm, ⟨26, _⟩ => ⟨S8x4096x2816, .f32⟩
  | .hbm, ⟨27, _⟩ => ⟨S_, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S8x4096x3072 : Shape := ⟨3, ![8, 4096, 3072]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1x512 : Shape := ⟨2, ![1, 512]⟩
abbrev S1x512x1024 : Shape := ⟨3, ![1, 512, 1024]⟩
abbrev S1x512x512 : Shape := ⟨3, ![1, 512, 512]⟩
abbrev S1x16x512 : Shape := ⟨3, ![1, 16, 512]⟩
abbrev S1x512x3072 : Shape := ⟨3, ![1, 512, 3072]⟩
abbrev S512x128 : Shape := ⟨2, ![512, 128]⟩
abbrev S512x512 : Shape := ⟨2, ![512, 512]⟩
abbrev S16x512 : Shape := ⟨2, ![16, 512]⟩
abbrev S16x128 : Shape := ⟨2, ![16, 128]⟩
abbrev S528x128 : Shape := ⟨2, ![528, 128]⟩
abbrev S527x128 : Shape := ⟨2, ![527, 128]⟩
abbrev S1x128x128 : Shape := ⟨3, ![1, 128, 128]⟩
abbrev S128x128 : Shape := ⟨2, ![128, 128]⟩
abbrev S525x128 : Shape := ⟨2, ![525, 128]⟩
abbrev S521x128 : Shape := ⟨2, ![521, 128]⟩
abbrev S513x128 : Shape := ⟨2, ![513, 128]⟩
abbrev S512x3072 : Shape := ⟨2, ![512, 3072]⟩

abbrev nBuf : Space → Nat
  | .hbm => 18
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x512, .f32⟩
  | .hbm, ⟨4, _⟩ => ⟨S8x4096x3072, .bf16⟩
  | .hbm, ⟨5, _⟩ => ⟨S4x128x128, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S4x128x128, .bf16⟩
  | .hbm, ⟨12, _⟩ => ⟨S1x512, .f32⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .f32⟩
  | .local _ .vmem, ⟨7, _⟩ => ⟨S1x512x512, .f32⟩
  | .local _ .vmem, ⟨8, _⟩ => ⟨S1x16x512, .f32⟩
  | .local _ .vmem, ⟨9, _⟩ => ⟨S1x16x512, .f32⟩
  | .local _ .vmem, ⟨10, _⟩ => ⟨S1x512x3072, .bf16⟩
  | .local _ .vmem, ⟨11, _⟩ => ⟨S1x512x3072, .bf16⟩
  | .local _ .vmem, ⟨12, _⟩ => ⟨S4x128x128, .bf16⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x512x1024, .f32⟩
  | .local _ .vmem, ⟨19, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x4096x1024 : Shape := ⟨3, ![8, 4096, 1024]⟩
abbrev S8x4096x512 : Shape := ⟨3, ![8, 4096, 512]⟩
abbrev S8x4096x3072 : Shape := ⟨3, ![8, 4096, 3072]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S4096 : Shape := ⟨1, ![4096]⟩
abbrev S8x4096x128 : Shape := ⟨3, ![8, 4096, 128]⟩
abbrev S_ : Shape := ⟨0, ![]⟩
abbrev S8x4097x128 : Shape := ⟨3, ![8, 4097, 128]⟩
abbrev S1x4096x1 : Shape := ⟨3, ![1, 4096, 1]⟩
abbrev S1x128x128 : Shape := ⟨3, ![1, 128, 128]⟩
abbrev S128x128 : Shape := ⟨2, ![128, 128]⟩
abbrev S8x4098x128 : Shape := ⟨3, ![8, 4098, 128]⟩
abbrev S8x4099x128 : Shape := ⟨3, ![8, 4099, 128]⟩
abbrev S8x4100x128 : Shape := ⟨3, ![8, 4100, 128]⟩
abbrev S8x4101x128 : Shape := ⟨3, ![8, 4101, 128]⟩
abbrev S8x4102x128 : Shape := ⟨3, ![8, 4102, 128]⟩
abbrev S8x4103x128 : Shape := ⟨3, ![8, 4103, 128]⟩
abbrev S8x4104x128 : Shape := ⟨3, ![8, 4104, 128]⟩
abbrev S8x4105x128 : Shape := ⟨3, ![8, 4105, 128]⟩
abbrev S8x4106x128 : Shape := ⟨3, ![8, 4106, 128]⟩
abbrev S8x4107x128 : Shape := ⟨3, ![8, 4107, 128]⟩
abbrev S8x4108x128 : Shape := ⟨3, ![8, 4108, 128]⟩
abbrev S8x4109x128 : Shape := ⟨3, ![8, 4109, 128]⟩
abbrev S8x4110x128 : Shape := ⟨3, ![8, 4110, 128]⟩
abbrev S8x4111x128 : Shape := ⟨3, ![8, 4111, 128]⟩
abbrev S1x1x512 : Shape := ⟨3, ![1, 1, 512]⟩

abbrev nBuf : Space → Nat
  | .hbm => 258
  | .vmem => 0
  | .smem => 0
  | _ => 0

abbrev hbmTy0_0 (i : Nat) : BufTy := match i % 128 with
  | 0 => ⟨S8x4096x1024, .f32⟩
  | 1 => ⟨S8x4096x512, .bf16⟩
  | 2 => ⟨S8x4096x512, .bf16⟩
  | 3 => ⟨S8x4096x512, .f32⟩
  | 4 => ⟨S8x4096x3072, .bf16⟩
  | 5 => ⟨S4x128x128, .f32⟩
  | 6 => ⟨S512, .f32⟩
  | 7 => ⟨S512x1024, .f32⟩
  | 8 => ⟨S512x1024, .f32⟩
  | 9 => ⟨S512x1024, .f32⟩
  | 10 => ⟨S1024x1024, .f32⟩
  | 11 => ⟨S8x4096x512, .f32⟩
  | 12 => ⟨S8x4096x512, .f32⟩
  | 13 => ⟨S8x4096x3072, .f32⟩
  | 14 => ⟨S4096, .i32⟩
  | 15 => ⟨S8x4096x128, .f32⟩
  | 16 => ⟨S_, .i32⟩
  | 17 => ⟨S_, .f32⟩
  | 18 => ⟨S8x4097x128, .f32⟩
  | 19 => ⟨S8x4096x128, .f32⟩
  | 20 => ⟨S8x4096x128, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S4096, .i32⟩
  | 34 => ⟨S4096, .f32⟩
  | 35 => ⟨S1x4096x1, .f32⟩
  | 36 => ⟨S8x4096x128, .f32⟩
  | 37 => ⟨S8x4096x128, .f32⟩
  | 38 => ⟨S8x4096x128, .f32⟩
  | 39 => ⟨S1x128x128, .f32⟩
  | 40 => ⟨S128x128, .f32⟩
  | 41 => ⟨S8x4096x128, .f32⟩
  | 42 => ⟨S8x4096x128, .f32⟩
  | 43 => ⟨S_, .i32⟩
  | 44 => ⟨S_, .f32⟩
  | 45 => ⟨S8x4097x128, .f32⟩
  | 46 => ⟨S8x4096x128, .f32⟩
  | 47 => ⟨S8x4096x128, .f32⟩
  | 48 => ⟨S_, .i32⟩
  | 49 => ⟨S_, .f32⟩
  | 50 => ⟨S8x4098x128, .f32⟩
  | 51 => ⟨S8x4096x128, .f32⟩
  | 52 => ⟨S8x4096x128, .f32⟩
  | 53 => ⟨S_, .i32⟩
  | 54 => ⟨S_, .f32⟩
  | 55 => ⟨S8x4099x128, .f32⟩
  | 56 => ⟨S8x4096x128, .f32⟩
  | 57 => ⟨S8x4096x128, .f32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .i32⟩
  | 71 => ⟨S4096, .f32⟩
  | 72 => ⟨S1x4096x1, .f32⟩
  | 73 => ⟨S8x4096x128, .f32⟩
  | 74 => ⟨S8x4096x128, .f32⟩
  | 75 => ⟨S8x4096x128, .f32⟩
  | 76 => ⟨S1x128x128, .f32⟩
  | 77 => ⟨S128x128, .f32⟩
  | 78 => ⟨S8x4096x128, .f32⟩
  | 79 => ⟨S8x4096x128, .f32⟩
  | 80 => ⟨S_, .i32⟩
  | 81 => ⟨S_, .f32⟩
  | 82 => ⟨S8x4097x128, .f32⟩
  | 83 => ⟨S8x4096x128, .f32⟩
  | 84 => ⟨S8x4096x128, .f32⟩
  | 85 => ⟨S_, .i32⟩
  | 86 => ⟨S_, .f32⟩
  | 87 => ⟨S8x4098x128, .f32⟩
  | 88 => ⟨S8x4096x128, .f32⟩
  | 89 => ⟨S8x4096x128, .f32⟩
  | 90 => ⟨S_, .i32⟩
  | 91 => ⟨S_, .f32⟩
  | 92 => ⟨S8x4099x128, .f32⟩
  | 93 => ⟨S8x4096x128, .f32⟩
  | 94 => ⟨S8x4096x128, .f32⟩
  | 95 => ⟨S_, .i32⟩
  | 96 => ⟨S_, .f32⟩
  | 97 => ⟨S8x4100x128, .f32⟩
  | 98 => ⟨S8x4096x128, .f32⟩
  | 99 => ⟨S8x4096x128, .f32⟩
  | 100 => ⟨S_, .i32⟩
  | 101 => ⟨S_, .f32⟩
  | 102 => ⟨S8x4101x128, .f32⟩
  | 103 => ⟨S8x4096x128, .f32⟩
  | 104 => ⟨S8x4096x128, .f32⟩
  | 105 => ⟨S_, .i32⟩
  | 106 => ⟨S_, .f32⟩
  | 107 => ⟨S8x4102x128, .f32⟩
  | 108 => ⟨S8x4096x128, .f32⟩
  | 109 => ⟨S8x4096x128, .f32⟩
  | 110 => ⟨S_, .i32⟩
  | 111 => ⟨S_, .f32⟩
  | 112 => ⟨S8x4103x128, .f32⟩
  | 113 => ⟨S8x4096x128, .f32⟩
  | 114 => ⟨S8x4096x128, .f32⟩
  | 115 => ⟨S_, .i32⟩
  | 116 => ⟨S4096, .i32⟩
  | 117 => ⟨S4096, .i32⟩
  | 118 => ⟨S_, .i32⟩
  | 119 => ⟨S4096, .i32⟩
  | 120 => ⟨S4096, .i32⟩
  | 121 => ⟨S_, .i32⟩
  | 122 => ⟨S4096, .i32⟩
  | 123 => ⟨S4096, .i32⟩
  | 124 => ⟨S_, .i32⟩
  | 125 => ⟨S4096, .i32⟩
  | 126 => ⟨S4096, .i32⟩
  | 127 => ⟨S4096, .i32⟩
  | _ => ⟨S8x4096x1024, .f32⟩

abbrev hbmTy0_1 (i : Nat) : BufTy := match i % 128 with
  | 0 => ⟨S4096, .f32⟩
  | 1 => ⟨S1x4096x1, .f32⟩
  | 2 => ⟨S8x4096x128, .f32⟩
  | 3 => ⟨S8x4096x128, .f32⟩
  | 4 => ⟨S8x4096x128, .f32⟩
  | 5 => ⟨S1x128x128, .f32⟩
  | 6 => ⟨S128x128, .f32⟩
  | 7 => ⟨S8x4096x128, .f32⟩
  | 8 => ⟨S8x4096x128, .f32⟩
  | 9 => ⟨S_, .i32⟩
  | 10 => ⟨S_, .f32⟩
  | 11 => ⟨S8x4097x128, .f32⟩
  | 12 => ⟨S8x4096x128, .f32⟩
  | 13 => ⟨S8x4096x128, .f32⟩
  | 14 => ⟨S_, .i32⟩
  | 15 => ⟨S_, .f32⟩
  | 16 => ⟨S8x4098x128, .f32⟩
  | 17 => ⟨S8x4096x128, .f32⟩
  | 18 => ⟨S8x4096x128, .f32⟩
  | 19 => ⟨S_, .i32⟩
  | 20 => ⟨S_, .f32⟩
  | 21 => ⟨S8x4099x128, .f32⟩
  | 22 => ⟨S8x4096x128, .f32⟩
  | 23 => ⟨S8x4096x128, .f32⟩
  | 24 => ⟨S_, .i32⟩
  | 25 => ⟨S_, .f32⟩
  | 26 => ⟨S8x4100x128, .f32⟩
  | 27 => ⟨S8x4096x128, .f32⟩
  | 28 => ⟨S8x4096x128, .f32⟩
  | 29 => ⟨S_, .i32⟩
  | 30 => ⟨S_, .f32⟩
  | 31 => ⟨S8x4101x128, .f32⟩
  | 32 => ⟨S8x4096x128, .f32⟩
  | 33 => ⟨S8x4096x128, .f32⟩
  | 34 => ⟨S_, .i32⟩
  | 35 => ⟨S_, .f32⟩
  | 36 => ⟨S8x4102x128, .f32⟩
  | 37 => ⟨S8x4096x128, .f32⟩
  | 38 => ⟨S8x4096x128, .f32⟩
  | 39 => ⟨S_, .i32⟩
  | 40 => ⟨S_, .f32⟩
  | 41 => ⟨S8x4103x128, .f32⟩
  | 42 => ⟨S8x4096x128, .f32⟩
  | 43 => ⟨S8x4096x128, .f32⟩
  | 44 => ⟨S_, .i32⟩
  | 45 => ⟨S_, .f32⟩
  | 46 => ⟨S8x4104x128, .f32⟩
  | 47 => ⟨S8x4096x128, .f32⟩
  | 48 => ⟨S8x4096x128, .f32⟩
  | 49 => ⟨S_, .i32⟩
  | 50 => ⟨S_, .f32⟩
  | 51 => ⟨S8x4105x128, .f32⟩
  | 52 => ⟨S8x4096x128, .f32⟩
  | 53 => ⟨S8x4096x128, .f32⟩
  | 54 => ⟨S_, .i32⟩
  | 55 => ⟨S_, .f32⟩
  | 56 => ⟨S8x4106x128, .f32⟩
  | 57 => ⟨S8x4096x128, .f32⟩
  | 58 => ⟨S8x4096x128, .f32⟩
  | 59 => ⟨S_, .i32⟩
  | 60 => ⟨S_, .f32⟩
  | 61 => ⟨S8x4107x128, .f32⟩
  | 62 => ⟨S8x4096x128, .f32⟩
  | 63 => ⟨S8x4096x128, .f32⟩
  | 64 => ⟨S_, .i32⟩
  | 65 => ⟨S_, .f32⟩
  | 66 => ⟨S8x4108x128, .f32⟩
  | 67 => ⟨S8x4096x128, .f32⟩
  | 68 => ⟨S8x4096x128, .f32⟩
  | 69 => ⟨S_, .i32⟩
  | 70 => ⟨S_, .f32⟩
  | 71 => ⟨S8x4109x128, .f32⟩
  | 72 => ⟨S8x4096x128, .f32⟩
  | 73 => ⟨S8x4096x128, .f32⟩
  | 74 => ⟨S_, .i32⟩
  | 75 => ⟨S_, .f32⟩
  | 76 => ⟨S8x4110x128, .f32⟩
  | 77 => ⟨S8x4096x128, .f32⟩
  | 78 => ⟨S8x4096x128, .f32⟩
  | 79 => ⟨S_, .i32⟩
  | 80 => ⟨S_, .f32⟩
  | 81 => ⟨S8x4111x128, .f32⟩
  | 82 => ⟨S8x4096x128, .f32⟩
  | 83 => ⟨S8x4096x128, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .i32⟩
  | 97 => ⟨S4096, .f32⟩
  | 98 => ⟨S1x4096x1, .f32⟩
  | 99 => ⟨S8x4096x128, .f32⟩
  | 100 => ⟨S8x4096x128, .f32⟩
  | 101 => ⟨S8x4096x128, .f32⟩
  | 102 => ⟨S1x128x128, .f32⟩
  | 103 => ⟨S128x128, .f32⟩
  | 104 => ⟨S8x4096x128, .f32⟩
  | 105 => ⟨S8x4096x512, .f32⟩
  | 106 => ⟨S1x1x512, .f32⟩
  | 107 => ⟨S8x4096x512, .f32⟩
  | 108 => ⟨S8x4096x512, .f32⟩
  | 109 => ⟨S8x4096x3072, .f32⟩
  | 110 => ⟨S8x4096x3072, .f32⟩
  | 111 => ⟨S_, .f32⟩
  | 112 => ⟨S8x4096x3072, .f32⟩
  | 113 => ⟨S8x4096x3072, .f32⟩
  | 114 => ⟨S_, .f32⟩
  | 115 => ⟨S8x4096x3072, .f32⟩
  | 116 => ⟨S8x4096x3072, .f32⟩
  | 117 => ⟨S8x4096x1024, .f32⟩
  | 118 => ⟨S8x4096x1024, .f32⟩
  | 119 => ⟨S8x4096x1024, .f32⟩
  | 120 => ⟨S8x4096x1024, .f32⟩
  | 121 => ⟨S8x4096x1024, .f32⟩
  | 122 => ⟨S8x4096x1024, .f32⟩
  | 123 => ⟨S8x4096x1024, .f32⟩
  | 124 => ⟨S8x4096x1024, .f32⟩
  | 125 => ⟨S8x4096x1024, .f32⟩
  | 126 => ⟨S8x4096x1024, .f32⟩
  | 127 => ⟨S8x4096x1024, .f32⟩
  | _ => ⟨S8x4096x1024, .f32⟩

abbrev hbmTy0_2 (i : Nat) : BufTy := match i % 128 with
  | 0 => ⟨S8x4096x1024, .f32⟩
  | 1 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_call1_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_call3_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_call4_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_call5_v0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_call6_v0 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_call7_v0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_15 : Ref sig .tc := ⟨.hbm, 100, rfl⟩
abbrev main_call8_v0 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_16 : Ref sig .tc := ⟨.hbm, 105, rfl⟩
abbrev main_call9_v0 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_17 : Ref sig .tc := ⟨.hbm, 110, rfl⟩
abbrev main_call10_v0 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_18 : Ref sig .tc := ⟨.hbm, 115, rfl⟩
abbrev main_v74 : Ref sig .tc := ⟨.hbm, 116, rfl⟩
abbrev main_v75 : Ref sig .tc := ⟨.hbm, 117, rfl⟩
abbrev main_c_19 : Ref sig .tc := ⟨.hbm, 118, rfl⟩
abbrev main_v76 : Ref sig .tc := ⟨.hbm, 119, rfl⟩
abbrev main_v77 : Ref sig .tc := ⟨.hbm, 120, rfl⟩
abbrev main_c_20 : Ref sig .tc := ⟨.hbm, 121, rfl⟩
abbrev main_v78 : Ref sig .tc := ⟨.hbm, 122, rfl⟩
abbrev main_v79 : Ref sig .tc := ⟨.hbm, 123, rfl⟩
abbrev main_c_21 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_c_22 : Ref sig .tc := ⟨.hbm, 137, rfl⟩
abbrev main_call11_v0 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_c_23 : Ref sig .tc := ⟨.hbm, 142, rfl⟩
abbrev main_call12_v0 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_24 : Ref sig .tc := ⟨.hbm, 147, rfl⟩
abbrev main_call13_v0 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_c_25 : Ref sig .tc := ⟨.hbm, 152, rfl⟩
abbrev main_call14_v0 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_c_26 : Ref sig .tc := ⟨.hbm, 157, rfl⟩
abbrev main_call15_v0 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_c_27 : Ref sig .tc := ⟨.hbm, 162, rfl⟩
abbrev main_call16_v0 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_c_28 : Ref sig .tc := ⟨.hbm, 167, rfl⟩
abbrev main_call17_v0 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_c_29 : Ref sig .tc := ⟨.hbm, 172, rfl⟩
abbrev main_call18_v0 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_c_30 : Ref sig .tc := ⟨.hbm, 177, rfl⟩
abbrev main_call19_v0 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_c_31 : Ref sig .tc := ⟨.hbm, 182, rfl⟩
abbrev main_call20_v0 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_c_32 : Ref sig .tc := ⟨.hbm, 187, rfl⟩
abbrev main_call21_v0 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_c_33 : Ref sig .tc := ⟨.hbm, 192, rfl⟩
abbrev main_call22_v0 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_c_34 : Ref sig .tc := ⟨.hbm, 197, rfl⟩
abbrev main_call23_v0 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_c_35 : Ref sig .tc := ⟨.hbm, 202, rfl⟩
abbrev main_call24_v0 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_c_36 : Ref sig .tc := ⟨.hbm, 207, rfl⟩
abbrev main_call25_v0 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_c_37 : Ref sig .tc := ⟨.hbm, 212, rfl⟩
abbrev main_v137 : Ref sig .tc := ⟨.hbm, 213, rfl⟩
abbrev main_v138 : Ref sig .tc := ⟨.hbm, 214, rfl⟩
abbrev main_c_38 : Ref sig .tc := ⟨.hbm, 215, rfl⟩
abbrev main_v139 : Ref sig .tc := ⟨.hbm, 216, rfl⟩
abbrev main_v140 : Ref sig .tc := ⟨.hbm, 217, rfl⟩
abbrev main_c_39 : Ref sig .tc := ⟨.hbm, 218, rfl⟩
abbrev main_v141 : Ref sig .tc := ⟨.hbm, 219, rfl⟩
abbrev main_v142 : Ref sig .tc := ⟨.hbm, 220, rfl⟩
abbrev main_c_40 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_cst : Ref sig .tc := ⟨.hbm, 239, rfl⟩
abbrev main_v160 : Ref sig .tc := ⟨.hbm, 240, rfl⟩
abbrev main_v161 : Ref sig .tc := ⟨.hbm, 241, rfl⟩
abbrev main_cst_41 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096x8 : Shape := ⟨3, ![8, 4096, 8]⟩
abbrev S1024 : Shape := ⟨1, ![1024]⟩
abbrev S1024x5852 : Shape := ⟨2, ![1024, 5852]⟩
abbrev S128 : Shape := ⟨1, ![128]⟩
abbrev S128x128 : Shape := ⟨2, ![128, 128]⟩
abbrev S_ : Shape := ⟨0, ![]⟩
abbrev S8x4096x48 : Shape := ⟨3, ![8, 4096, 48]⟩
abbrev S8x4096x128 : Shape := ⟨3, ![8, 4096, 128]⟩
abbrev S5852x1024 : Shape := ⟨2, ![5852, 1024]⟩
abbrev S964x1024 : Shape := ⟨2, ![964, 1024]⟩
abbrev S60x1024 : Shape := ⟨2, ![60, 1024]⟩
abbrev S1792x1024 : Shape := ⟨2, ![1792, 1024]⟩
abbrev S24x1024 : Shape := ⟨2, ![24, 1024]⟩
abbrev S232x1024 : Shape := ⟨2, ![232, 1024]⟩
abbrev S3072x1024 : Shape := ⟨2, ![3072, 1024]⟩
abbrev S1x1024 : Shape := ⟨2, ![1, 1024]⟩
abbrev S6144x1024 : Shape := ⟨2, ![6144, 1024]⟩
abbrev S1x128 : Shape := ⟨2, ![1, 128]⟩
abbrev S8x8x4096x64 : Shape := ⟨4, ![8, 8, 4096, 64]⟩
abbrev S8x4096x64 : Shape := ⟨3, ![8, 4096, 64]⟩
abbrev S8x16x72x256 : Shape := ⟨4, ![8, 16, 72, 256]⟩
abbrev S8x4x4096x64 : Shape := ⟨4, ![8, 4, 4096, 64]⟩
abbrev S8x8x4096 : Shape := ⟨3, ![8, 8, 4096]⟩
abbrev S8x2x4096x64 : Shape := ⟨4, ![8, 2, 4096, 64]⟩
abbrev S8x2x16x72x256 : Shape := ⟨5, ![8, 2, 16, 72, 256]⟩
abbrev S8x24x4096 : Shape := ⟨3, ![8, 24, 4096]⟩
abbrev S8x4096x512 : Shape := ⟨3, ![8, 4096, 512]⟩
abbrev S8x4096x3072 : Shape := ⟨3, ![8, 4096, 3072]⟩
abbrev S1x512x1024 : Shape := ⟨3, ![1, 512, 1024]⟩
abbrev S1x512x128 : Shape := ⟨3, ![1, 512, 128]⟩
abbrev S1x8x512x64 : Shape := ⟨4, ![1, 8, 512, 64]⟩
abbrev S1x512x64 : Shape := ⟨3, ![1, 512, 64]⟩
abbrev S1x2x72x256 : Shape := ⟨4, ![1, 2, 72, 256]⟩
abbrev S1x4x512x64 : Shape := ⟨4, ![1, 4, 512, 64]⟩
abbrev S1x8x512 : Shape := ⟨3, ![1, 8, 512]⟩
abbrev S1x2x512x64 : Shape := ⟨4, ![1, 2, 512, 64]⟩
abbrev S1x2x2x72x256 : Shape := ⟨5, ![1, 2, 2, 72, 256]⟩
abbrev S1x24x512 : Shape := ⟨3, ![1, 24, 512]⟩
abbrev S1x512x512 : Shape := ⟨3, ![1, 512, 512]⟩
abbrev S1x512x3072 : Shape := ⟨3, ![1, 512, 3072]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x512 : Shape := ⟨2, ![512, 512]⟩
abbrev S512x64 : Shape := ⟨2, ![512, 64]⟩
abbrev S1x1x512x64 : Shape := ⟨4, ![1, 1, 512, 64]⟩
abbrev S128x512 : Shape := ⟨2, ![128, 512]⟩
abbrev S64x512 : Shape := ⟨2, ![64, 512]⟩
abbrev S8x256 : Shape := ⟨2, ![8, 256]⟩
abbrev S64x256 : Shape := ⟨2, ![64, 256]⟩
abbrev S1x1x64x256 : Shape := ⟨4, ![1, 1, 64, 256]⟩
abbrev S1x1x8x256 : Shape := ⟨4, ![1, 1, 8, 256]⟩
abbrev S512x256 : Shape := ⟨2, ![512, 256]⟩
abbrev S8x512 : Shape := ⟨2, ![8, 512]⟩
abbrev S1x1x2x72x256 : Shape := ⟨5, ![1, 1, 2, 72, 256]⟩
abbrev S2x72x256 : Shape := ⟨3, ![2, 72, 256]⟩
abbrev S1x64x256 : Shape := ⟨3, ![1, 64, 256]⟩
abbrev S1x1x1x64x256 : Shape := ⟨5, ![1, 1, 1, 64, 256]⟩
abbrev S1x8x256 : Shape := ⟨3, ![1, 8, 256]⟩
abbrev S1x1x1x8x256 : Shape := ⟨5, ![1, 1, 1, 8, 256]⟩
abbrev S24x512 : Shape := ⟨2, ![24, 512]⟩

abbrev nBuf : Space → Nat
  | .hbm => 47
  | .vmem => 42
  | .smem => 0
  | _ => 0

abbrev bufTy : (tb : Table) → Fin (tcTables nBuf tb) → BufTy
  | .hbm, ⟨0, _⟩ => ⟨S8x4096x1024, .f32⟩
  | .hbm, ⟨1, _⟩ => ⟨S8x4096x8, .f32⟩
  | .hbm, ⟨2, _⟩ => ⟨S8x4096x8, .f32⟩
  | .hbm, ⟨3, _⟩ => ⟨S1024, .f32⟩
  | .hbm, ⟨4, _⟩ => ⟨S1024x5852, .f32⟩
  | .hbm, ⟨5, _⟩ => ⟨S128, .f32⟩
  | .hbm, ⟨6, _⟩ => ⟨S128x128, .f32⟩
  | .hbm, ⟨7, _⟩ => ⟨S_, .f32⟩
  | .hbm, ⟨8, _⟩ => ⟨S8x4096x48, .f32⟩
  | .hbm, ⟨9, _⟩ => ⟨S_, .f32⟩
  | .hbm, ⟨10, _⟩ => ⟨S8x4096x8, .f32⟩
  | .hbm, ⟨11, _⟩ => ⟨S_, .f32⟩
  | .hbm, ⟨12, _⟩ => ⟨S8x4096x48, .f32⟩
  | .hbm, ⟨13, _⟩ => ⟨S8x4096x48, .f32⟩
  | .hbm, ⟨14, _⟩ => ⟨S8x4096x128, .f32⟩
  | .hbm, ⟨15, _⟩ => ⟨S8x4096x8, .f32⟩
  | .hbm, ⟨16, _⟩ => ⟨S8x4096x128, .f32⟩
  | .hbm, ⟨17, _⟩ => ⟨S8x4096x128, .f32⟩
  | .hbm, ⟨18, _⟩ => ⟨S5852x1024, .f32⟩
  | .hbm, ⟨19, _⟩ => ⟨S5852x1024, .bf16⟩
  | .hbm, ⟨20, _⟩ => ⟨S964x1024, .bf16⟩
  | .hbm, ⟨21, _⟩ => ⟨S_, .bf16⟩
  | .hbm, ⟨22, _⟩ => ⟨S60x1024, .bf16⟩
  | .hbm, ⟨23, _⟩ => ⟨S1792x1024, .bf16⟩
  | .hbm, ⟨24, _⟩ => ⟨S24x1024, .bf16⟩
  | .hbm, ⟨25, _⟩ => ⟨S_, .bf16⟩
  | .hbm, ⟨26, _⟩ => ⟨S232x1024, .bf16⟩
  | .hbm, ⟨27, _⟩ => ⟨S3072x1024, .bf16⟩
  | .hbm, ⟨28, _⟩ => ⟨S1x1024, .f32⟩
  | .hbm, ⟨29, _⟩ => ⟨S6144x1024, .bf16⟩
  | .hbm, ⟨30, _⟩ => ⟨S1x128, .f32⟩
  | .hbm, ⟨31, _⟩ => ⟨S128x128, .bf16⟩
  | .hbm, ⟨32, _⟩ => ⟨S8x8x4096x64, .bf16⟩
  | .hbm, ⟨33, _⟩ => ⟨S8x4096x64, .bf16⟩
  | .hbm, ⟨34, _⟩ => ⟨S8x16x72x256, .bf16⟩
  | .hbm, ⟨35, _⟩ => ⟨S8x4x4096x64, .bf16⟩
  | .hbm, ⟨36, _⟩ => ⟨S8x4096x64, .bf16⟩
  | .hbm, ⟨37, _⟩ => ⟨S8x8x4096, .f32⟩
  | .hbm, ⟨38, _⟩ => ⟨S8x8x4096x64, .bf16⟩
  | .hbm, ⟨39, _⟩ => ⟨S8x2x4096x64, .bf16⟩
  | .hbm, ⟨40, _⟩ => ⟨S8x2x4096x64, .bf16⟩
  | .hbm, ⟨41, _⟩ => ⟨S8x2x16x72x256, .bf16⟩
  | .hbm, ⟨42, _⟩ => ⟨S8x2x16x72x256, .bf16⟩
  | .hbm, ⟨43, _⟩ => ⟨S8x4x4096x64, .f32⟩
  | .hbm, ⟨44, _⟩ => ⟨S8x24x4096, .f32⟩
  | .hbm, ⟨45, _⟩ => ⟨S8x4096x512, .f32⟩
  | .hbm, ⟨46, _⟩ => ⟨S8x4096x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S6144x1024, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x128, .f32⟩
  | .local _ .vmem, ⟨11, _⟩ => ⟨S128x128, .bf16⟩
  | .local _ .vmem, ⟨12, _⟩ => ⟨S1x8x512x64, .bf16⟩
  | .local _ .vmem, ⟨13, _⟩ => ⟨S1x8x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x2x72x256, .bf16⟩
  | .local _ .vmem, ⟨17, _⟩ => ⟨S1x2x72x256, .bf16⟩
  | .local _ .vmem, ⟨18, _⟩ => ⟨S1x4x512x64, .bf16⟩
  | .local _ .vmem, ⟨19, _⟩ => ⟨S1x4x512x64, .bf16⟩
  | .local _ .vmem, ⟨20, _⟩ => ⟨S1x512x64, .bf16⟩
  | .local _ .vmem, ⟨21, _⟩ => ⟨S1x512x64, .bf16⟩
  | .local _ .vmem, ⟨22, _⟩ => ⟨S1x8x512, .f32⟩
  | .local _ .vmem, ⟨23, _⟩ => ⟨S1x8x512, .f32⟩
  | .local _ .vmem, ⟨24, _⟩ => ⟨S1x8x512x64, .bf16⟩
  | .local _ .vmem, ⟨25, _⟩ => ⟨S1x8x512x64, .bf16⟩
  | .local _ .vmem, ⟨26, _⟩ => ⟨S1x2x512x64, .bf16⟩
  | .local _ .vmem, ⟨27, _⟩ => ⟨S1x2x512x64, .bf16⟩
  | .local _ .vmem, ⟨28, _⟩ => ⟨S1x2x512x64, .bf16⟩
  | .local _ .vmem, ⟨29, _⟩ => ⟨S1x2x512x64, .bf16⟩
  | .local _ .vmem, ⟨30, _⟩ => ⟨S1x2x2x72x256, .bf16⟩
  | .local _ .vmem, ⟨31, _⟩ => ⟨S1x2x2x72x256, .bf16⟩
  | .local _ .vmem, ⟨32, _⟩ => ⟨S1x2x2x72x256, .bf16⟩
  | .local _ .vmem, ⟨33, _⟩ => ⟨S1x2x2x72x256, .bf16⟩
  | .local _ .vmem, ⟨34, _⟩ => ⟨S1x4x512x64, .f32⟩
  | .local _ .vmem, ⟨35, _⟩ => ⟨S1x4x512x64, .f32⟩
  | .local _ .vmem, ⟨36, _⟩ => ⟨S1x24x512, .f32⟩
  | .local _ .vmem, ⟨37, _⟩ => ⟨S1x24x512, .f32⟩
  | .local _ .vmem, ⟨38, _⟩ => ⟨S1x512x512, .f32⟩
  | .local _ .vmem, ⟨39, _⟩ => ⟨S1x512x512, .f32⟩
  | .local _ .vmem, ⟨40, _⟩ => ⟨S1x512x3072, .bf16⟩
  | .local _ .vmem, ⟨41, _⟩ => ⟨S1x512x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev main_v20_5 : Ref sig .tc := ⟨.hbm, 37, rfl⟩
abbrev main_v20_6 : Ref sig .tc := ⟨.hbm, 38, rfl⟩
abbrev main_v20_7 : Ref sig .tc := ⟨.hbm, 39, rfl⟩
abbrev main_v20_8 : Ref sig .tc := ⟨.hbm, 40, rfl⟩
abbrev main_v20_9 : Ref sig .tc := ⟨.hbm, 41, rfl⟩
abbrev main_v20_10 : Ref sig .tc := ⟨.hbm, 42, rfl⟩
abbrev main_v20_11 : Ref sig .tc := ⟨.hbm, 43, rfl⟩
abbrev main_v20_12 : Ref sig .tc := ⟨.hbm, 44, rfl⟩
abbrev main_v20_13 : Ref sig .tc := ⟨.hbm, 45, rfl⟩
abbrev main_v20_14 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S6144x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x72x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x2x72x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x2x72x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x512x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x24x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x3072 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference4Ideal.lean ====
abbrev S8x4096x1024 : Shape := ⟨3, ![8, 4096, 1024]⟩
abbrev S8x4096x8 : Shape := ⟨3, ![8, 4096, 8]⟩
abbrev S1024 : Shape := ⟨1, ![1024]⟩
abbrev S1024x5852 : Shape := ⟨2, ![1024, 5852]⟩
abbrev S128 : Shape := ⟨1, ![128]⟩
abbrev S128x128 : Shape := ⟨2, ![128, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5852 : Shape := ⟨3, ![8, 4096, 5852]⟩
abbrev S8x4096x512 : Shape := ⟨3, ![8, 4096, 512]⟩
abbrev S8x4096x128 : Shape := ⟨3, ![8, 4096, 128]⟩
abbrev S8x4096x256 : Shape := ⟨3, ![8, 4096, 256]⟩
abbrev S8x4096x64 : Shape := ⟨3, ![8, 4096, 64]⟩
abbrev S1x1x128 : Shape := ⟨3, ![1, 1, 128]⟩
abbrev S8x4096x8x64 : Shape := ⟨4, ![8, 4096, 8, 64]⟩
abbrev S8x4096x1x8 : Shape := ⟨4, ![8, 4096, 1, 8]⟩
abbrev S8x4096x8x8 : Shape := ⟨4, ![8, 4096, 8, 8]⟩
abbrev S8x4096x8x48 : Shape := ⟨4, ![8, 4096, 8, 48]⟩
abbrev S8x8x4096x64 : Shape := ⟨4, ![8, 8, 4096, 64]⟩
abbrev S8x4096x48 : Shape := ⟨3, ![8, 4096, 48]⟩
abbrev S1x8 : Shape := ⟨2, ![1, 8]⟩
abbrev S8 : Shape := ⟨1, ![8]⟩
abbrev S8x4096x72 : Shape := ⟨3, ![8, 4096, 72]⟩
abbrev S8x16x256x72 : Shape := ⟨4, ![8, 16, 256, 72]⟩
abbrev S8x16x72x256 : Shape := ⟨4, ![8, 16, 72, 256]⟩
abbrev S8x4096x4x64 : Shape := ⟨4, ![8, 4096, 4, 64]⟩
abbrev S8x4096x4x8 : Shape := ⟨4, ![8, 4096, 4, 8]⟩
abbrev S8x4096x4x48 : Shape := ⟨4, ![8, 4096, 4, 48]⟩
abbrev S8x4x4096x64 : Shape := ⟨4, ![8, 4, 4096, 64]⟩
abbrev S8x4096x4 : Shape := ⟨3, ![8, 4096, 4]⟩
abbrev S8x8x4096 : Shape := ⟨3, ![8, 8, 4096]⟩
abbrev S8x4096x2x64 : Shape := ⟨4, ![8, 4096, 2, 64]⟩
abbrev S8x4096x2x8 : Shape := ⟨4, ![8, 4096, 2, 8]⟩
abbrev S8x4096x2x48 : Shape := ⟨4, ![8, 4096, 2, 48]⟩
abbrev S8x2x4096x64 : Shape := ⟨4, ![8, 2, 4096, 64]⟩
abbrev S8x2x4096x8 : Shape := ⟨4, ![8, 2, 4096, 8]⟩
abbrev S8x2x4096x72 : Shape := ⟨4, ![8, 2, 4096, 72]⟩
abbrev S8x2x16x256x72 : Shape := ⟨5, ![8, 2, 16, 256, 72]⟩
abbrev S8x2x16x72x256 : Shape := ⟨5, ![8, 2, 16, 72, 256]⟩
abbrev S8x4096x24 : Shape := ⟨3, ![8, 4096, 24]⟩
abbrev S8x24x4096 : Shape := ⟨3, ![8, 24, 4096]⟩
abbrev S8x4096x3072 : Shape := ⟨3, ![8, 4096, 3072]⟩

abbrev nBuf : Space → Nat
  | .hbm => 257
  | .vmem => 0
  | .smem => 0
  | _ => 0

abbrev hbmTy0_0 (i : Nat) : BufTy := match i % 128 with
  | 0 => ⟨S8x4096x1024, .f32⟩
  | 1 => ⟨S8x4096x8, .f32⟩
  | 2 => ⟨S8x4096x8, .f32⟩
  | 3 => ⟨S1024, .f32⟩
  | 4 => ⟨S1024x5852, .f32⟩
  | 5 => ⟨S128, .f32⟩
  | 6 => ⟨S128x128, .f32⟩
  | 7 => ⟨S8x4096x1024, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x1024, .f32⟩
  | 19 => ⟨S8x4096x1024, .f32⟩
  | 20 => ⟨S1x1x1024, .f32⟩
  | 21 => ⟨S8x4096x1024, .f32⟩
  | 22 => ⟨S8x4096x1024, .f32⟩
  | 23 => ⟨S8x4096x5852, .f32⟩
  | 24 => ⟨S8x4096x512, .f32⟩
  | 25 => ⟨S8x4096x128, .f32⟩
  | 26 => ⟨S8x4096x256, .f32⟩
  | 27 => ⟨S8x4096x64, .f32⟩
  | 28 => ⟨S8x4096x512, .f32⟩
  | 29 => ⟨S8x4096x256, .f32⟩
  | 30 => ⟨S8x4096x256, .f32⟩
  | 31 => ⟨S8x4096x256, .f32⟩
  | 32 => ⟨S8x4096x128, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S_, .f32⟩
  | 40 => ⟨S8x4096x1, .f32⟩
  | 41 => ⟨S8x4096x1, .f32⟩
  | 42 => ⟨S8x4096x1, .f32⟩
  | 43 => ⟨S8x4096x128, .f32⟩
  | 44 => ⟨S8x4096x128, .f32⟩
  | 45 => ⟨S1x1x128, .f32⟩
  | 46 => ⟨S8x4096x128, .f32⟩
  | 47 => ⟨S8x4096x128, .f32⟩
  | 48 => ⟨S8x4096x128, .f32⟩
  | 49 => ⟨S8x4096x8x64, .f32⟩
  | 50 => ⟨S8x4096x1x8, .f32⟩
  | 51 => ⟨S8x4096x1x8, .f32⟩
  | 52 => ⟨S8x4096x8x8, .f32⟩
  | 53 => ⟨S8x4096x8x8, .f32⟩
  | 54 => ⟨S8x4096x8x8, .f32⟩
  | 55 => ⟨S8x4096x8x8, .f32⟩
  | 56 => ⟨S8x4096x8x8, .f32⟩
  | 57 => ⟨S8x4096x8x8, .f32⟩
  | 58 => ⟨S8x4096x8x8, .f32⟩
  | 59 => ⟨S8x4096x8x8, .f32⟩
  | 60 => ⟨S8x4096x8x8, .f32⟩
  | 61 => ⟨S8x4096x8x8, .f32⟩
  | 62 => ⟨S8x4096x8x8, .f32⟩
  | 63 => ⟨S8x4096x8x8, .f32⟩
  | 64 => ⟨S8x4096x8x48, .f32⟩
  | 65 => ⟨S8x4096x8x64, .f32⟩
  | 66 => ⟨S8x8x4096x64, .f32⟩
  | 67 => ⟨S_, .f32⟩
  | 68 => ⟨S8x8x4096x64, .f32⟩
  | 69 => ⟨S8x8x4096x64, .f32⟩
  | 70 => ⟨S8x8x4096x64, .bf16⟩
  | 71 => ⟨S8x4096x64, .f32⟩
  | 72 => ⟨S8x4096x8, .f32⟩
  | 73 => ⟨S8x4096x8, .f32⟩
  | 74 => ⟨S8x4096x8, .f32⟩
  | 75 => ⟨S8x4096x8, .f32⟩
  | 76 => ⟨S8x4096x8, .f32⟩
  | 77 => ⟨S8x4096x8, .f32⟩
  | 78 => ⟨S8x4096x8, .f32⟩
  | 79 => ⟨S8x4096x8, .f32⟩
  | 80 => ⟨S8x4096x48, .f32⟩
  | 81 => ⟨S8x4096x64, .f32⟩
  | 82 => ⟨S8x4096x64, .bf16⟩
  | 83 => ⟨S8x4096x64, .f32⟩
  | 84 => ⟨S1x8, .i32⟩
  | 85 => ⟨S1x8, .i32⟩
  | 86 => ⟨S_, .i32⟩
  | 87 => ⟨S1x8, .i32⟩
  | 88 => ⟨S1x8, .i32⟩
  | 89 => ⟨S1x8, .i1⟩
  | 90 => ⟨S1x8, .f32⟩
  | 91 => ⟨S8, .f32⟩
  | 92 => ⟨S8x4096x8, .f32⟩
  | 93 => ⟨S8x4096x72, .f32⟩
  | 94 => ⟨S8x16x256x72, .f32⟩
  | 95 => ⟨S8x16x72x256, .f32⟩
  | 96 => ⟨S8x16x72x256, .bf16⟩
  | 97 => ⟨S8x4096x4x64, .f32⟩
  | 98 => ⟨S8x4096x1x8, .f32⟩
  | 99 => ⟨S8x4096x1x8, .f32⟩
  | 100 => ⟨S8x4096x4x8, .f32⟩
  | 101 => ⟨S8x4096x4x8, .f32⟩
  | 102 => ⟨S8x4096x4x8, .f32⟩
  | 103 => ⟨S8x4096x4x8, .f32⟩
  | 104 => ⟨S8x4096x4x8, .f32⟩
  | 105 => ⟨S8x4096x4x8, .f32⟩
  | 106 => ⟨S8x4096x4x8, .f32⟩
  | 107 => ⟨S8x4096x4x8, .f32⟩
  | 108 => ⟨S8x4096x4x8, .f32⟩
  | 109 => ⟨S8x4096x4x8, .f32⟩
  | 110 => ⟨S8x4096x4x8, .f32⟩
  | 111 => ⟨S8x4096x4x8, .f32⟩
  | 112 => ⟨S8x4096x4x48, .f32⟩
  | 113 => ⟨S8x4096x4x64, .f32⟩
  | 114 => ⟨S8x4x4096x64, .f32⟩
  | 115 => ⟨S_, .f32⟩
  | 116 => ⟨S8x4x4096x64, .f32⟩
  | 117 => ⟨S8x4x4096x64, .f32⟩
  | 118 => ⟨S8x4x4096x64, .bf16⟩
  | 119 => ⟨S8x4096x8, .f32⟩
  | 120 => ⟨S8x4096x8, .f32⟩
  | 121 => ⟨S8x4096x8, .f32⟩
  | 122 => ⟨S8x4096x8, .f32⟩
  | 123 => ⟨S8x4096x8, .f32⟩
  | 124 => ⟨S8x4096x8, .f32⟩
  | 125 => ⟨S8x4096x8, .f32⟩
  | 126 => ⟨S8x4096x8, .f32⟩
  | 127 => ⟨S8x4096x48, .f32⟩
  | _ => ⟨S8x4096x1024, .f32⟩

abbrev hbmTy0_1 (i : Nat) : BufTy := match i % 128 with
  | 0 => ⟨S8x4096x64, .f32⟩
  | 1 => ⟨S8x4096x64, .bf16⟩
  | 2 => ⟨S8x4096x4, .f32⟩
  | 3 => ⟨S_, .i32⟩
  | 4 => ⟨S_, .f32⟩
  | 5 => ⟨S8x4096x8, .f32⟩
  | 6 => ⟨S8x8x4096, .f32⟩
  | 7 => ⟨S8x4096x8x64, .f32⟩
  | 8 => ⟨S8x4096x1x8, .f32⟩
  | 9 => ⟨S8x4096x1x8, .f32⟩
  | 10 => ⟨S8x4096x8x8, .f32⟩
  | 11 => ⟨S8x4096x8x8, .f32⟩
  | 12 => ⟨S8x4096x8x8, .f32⟩
  | 13 => ⟨S8x4096x8x8, .f32⟩
  | 14 => ⟨S8x4096x8x8, .f32⟩
  | 15 => ⟨S8x4096x8x8, .f32⟩
  | 16 => ⟨S8x4096x8x8, .f32⟩
  | 17 => ⟨S8x4096x8x8, .f32⟩
  | 18 => ⟨S8x4096x8x8, .f32⟩
  | 19 => ⟨S8x4096x8x8, .f32⟩
  | 20 => ⟨S8x4096x8x8, .f32⟩
  | 21 => ⟨S8x4096x8x8, .f32⟩
  | 22 => ⟨S8x4096x8x48, .f32⟩
  | 23 => ⟨S8x4096x8x64, .f32⟩
  | 24 => ⟨S8x8x4096x64, .f32⟩
  | 25 => ⟨S_, .f32⟩
  | 26 => ⟨S8x8x4096x64, .f32⟩
  | 27 => ⟨S8x8x4096x64, .f32⟩
  | 28 => ⟨S8x8x4096x64, .bf16⟩
  | 29 => ⟨S8x4096x128, .f32⟩
  | 30 => ⟨S8x4096x2x64, .f32⟩
  | 31 => ⟨S8x4096x1x8, .f32⟩
  | 32 => ⟨S8x4096x1x8, .f32⟩
  | 33 => ⟨S8x4096x2x8, .f32⟩
  | 34 => ⟨S8x4096x2x8, .f32⟩
  | 35 => ⟨S8x4096x2x8, .f32⟩
  | 36 => ⟨S8x4096x2x8, .f32⟩
  | 37 => ⟨S8x4096x2x8, .f32⟩
  | 38 => ⟨S8x4096x2x8, .f32⟩
  | 39 => ⟨S8x4096x2x8, .f32⟩
  | 40 => ⟨S8x4096x2x8, .f32⟩
  | 41 => ⟨S8x4096x2x8, .f32⟩
  | 42 => ⟨S8x4096x2x8, .f32⟩
  | 43 => ⟨S8x4096x2x8, .f32⟩
  | 44 => ⟨S8x4096x2x8, .f32⟩
  | 45 => ⟨S8x4096x2x48, .f32⟩
  | 46 => ⟨S8x4096x2x64, .f32⟩
  | 47 => ⟨S8x2x4096x64, .f32⟩
  | 48 => ⟨S8x2x4096x64, .bf16⟩
  | 49 => ⟨S8x4096x128, .f32⟩
  | 50 => ⟨S8x4096x2x64, .f32⟩
  | 51 => ⟨S8x4096x1x8, .f32⟩
  | 52 => ⟨S8x4096x1x8, .f32⟩
  | 53 => ⟨S8x4096x2x8, .f32⟩
  | 54 => ⟨S8x4096x2x8, .f32⟩
  | 55 => ⟨S8x4096x2x8, .f32⟩
  | 56 => ⟨S8x4096x2x8, .f32⟩
  | 57 => ⟨S8x4096x2x8, .f32⟩
  | 58 => ⟨S8x4096x2x8, .f32⟩
  | 59 => ⟨S8x4096x2x8, .f32⟩
  | 60 => ⟨S8x4096x2x8, .f32⟩
  | 61 => ⟨S8x4096x2x8, .f32⟩
  | 62 => ⟨S8x4096x2x8, .f32⟩
  | 63 => ⟨S8x4096x2x8, .f32⟩
  | 64 => ⟨S8x4096x2x8, .f32⟩
  | 65 => ⟨S8x4096x2x48, .f32⟩
  | 66 => ⟨S8x4096x2x64, .f32⟩
  | 67 => ⟨S8x2x4096x64, .f32⟩
  | 68 => ⟨S8x2x4096x64, .bf16⟩
  | 69 => ⟨S8x4096x128, .f32⟩
  | 70 => ⟨S8x4096x2x64, .f32⟩
  | 71 => ⟨S8x2x4096x64, .f32⟩
  | 72 => ⟨S1x8, .i32⟩
  | 73 => ⟨S1x8, .i32⟩
  | 74 => ⟨S_, .i32⟩
  | 75 => ⟨S1x8, .i32⟩
  | 76 => ⟨S1x8, .i32⟩
  | 77 => ⟨S1x8, .i1⟩
  | 78 => ⟨S1x8, .f32⟩
  | 79 => ⟨S8, .f32⟩
  | 80 => ⟨S8x2x4096x8, .f32⟩
  | 81 => ⟨S8x2x4096x72, .f32⟩
  | 82 => ⟨S8x2x16x256x72, .f32⟩
  | 83 => ⟨S8x2x16x72x256, .f32⟩
  | 84 => ⟨S8x2x16x72x256, .bf16⟩
  | 85 => ⟨S8x4096x128, .f32⟩
  | 86 => ⟨S8x4096x2x64, .f32⟩
  | 87 => ⟨S8x2x4096x64, .f32⟩
  | 88 => ⟨S1x8, .i32⟩
  | 89 => ⟨S1x8, .i32⟩
  | 90 => ⟨S_, .i32⟩
  | 91 => ⟨S1x8, .i32⟩
  | 92 => ⟨S1x8, .i32⟩
  | 93 => ⟨S1x8, .i1⟩
  | 94 => ⟨S1x8, .f32⟩
  | 95 => ⟨S8, .f32⟩
  | 96 => ⟨S8x2x4096x8, .f32⟩
  | 97 => ⟨S8x2x4096x72, .f32⟩
  | 98 => ⟨S8x2x16x256x72, .f32⟩
  | 99 => ⟨S8x2x16x72x256, .f32⟩
  | 100 => ⟨S8x2x16x72x256, .bf16⟩
  | 101 => ⟨S8x4096x128, .f32⟩
  | 102 => ⟨S8x4096x2x64, .f32⟩
  | 103 => ⟨S8x4096x1x8, .f32⟩
  | 104 => ⟨S8x4096x1x8, .f32⟩
  | 105 => ⟨S8x4096x2x8, .f32⟩
  | 106 => ⟨S8x4096x2x8, .f32⟩
  | 107 => ⟨S8x4096x2x8, .f32⟩
  | 108 => ⟨S8x4096x2x8, .f32⟩
  | 109 => ⟨S8x4096x2x8, .f32⟩
  | 110 => ⟨S8x4096x2x8, .f32⟩
  | 111 => ⟨S8x4096x2x8, .f32⟩
  | 112 => ⟨S8x4096x2x8, .f32⟩
  | 113 => ⟨S8x4096x2x8, .f32⟩
  | 114 => ⟨S8x4096x2x8, .f32⟩
  | 115 => ⟨S8x4096x2x8, .f32⟩
  | 116 => ⟨S8x4096x2x8, .f32⟩
  | 117 => ⟨S8x4096x2x48, .f32⟩
  | 118 => ⟨S8x4096x2x64, .f32⟩
  | 119 => ⟨S8x2x4096x64, .f32⟩
  | 120 => ⟨S8x4096x128, .f32⟩
  | 121 => ⟨S8x4096x2x64, .f32⟩
  | 122 => ⟨S8x2x4096x64, .f32⟩
  | 123 => ⟨S8x4x4096x64, .f32⟩
  | 124 => ⟨S8x4096x24, .f32⟩
  | 125 => ⟨S8x24x4096, .f32⟩
  | 126 => ⟨S8x4096x512, .f32⟩
  | 127 => ⟨S8x4096x3072, .f32⟩
  | _ => ⟨S8x4096x1024, .f32⟩

abbrev hbmTy0_2 (i : Nat) : BufTy := match i % 128 with
  | 0 => ⟨S8x4096x3072, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_c : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_cst_6 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_c_7 : Ref sig .tc := ⟨.hbm, 131, rfl⟩
abbrev main_call0_v0 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_cst_8 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_c_9 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_c_10 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩

abbrev nD : Nat := 1
abbrev τ : Topo := Topo.v7x

variable {F : FTy → Type} [FloatOps F]
-- ==== Proof.FlashLoops.lean ====
/-
  The flash loop of the sparse attention kernel, for its frame: the two counted loops `k0_t4` (the main loop) and
  `k0_t5` (the remainder loop) by one invariant each. Before every trip the windows read hold what they held and each
  scratch the trips store into holds something.
-/
module

public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ
abbrev 𝒱₀ : Variants := Variants.none

/-- A memref's buffer on core `c`, whole at `f`. -/
abbrev pt (c : Dev nD) {sp : Space} {S : Shape} {e : EltTy} (M : Memref sig .tc sp S e) (f : BufTy.Contents (Elt F) M.view.ty) : sProp 𝕄 :=
  iprop(M.view.loc (c : Thread nD τ) ↦[M.view.set]{fullShare} f)

/-- What the flash loops hold between trips. -/
abbrev flashInv (c : Dev nD) (arg2 : Memref sig .tc .vmem S1x8x256x64 .bf16) (harg2 : arg2.IsWhole) (arg3 : Memref sig .tc .vmem S1x4096x64 .bf16) (harg3 : arg3.IsWhole) (arg4 : Memref sig .tc .vmem S1x16x72x256 .bf16) (harg4 : arg4.IsWhole) (arg5 : Memref sig .tc .vmem S1x4x256x64 .bf16) (harg5 : arg5.IsWhole) (arg6 : Memref sig .tc .vmem S1x4096x64 .bf16) (harg6 : arg6.IsWhole) (arg7 : Memref sig .tc .vmem S1x8x256 .f32) (harg7 : arg7.IsWhole) (arg8 : Memref sig .tc .vmem S1x256x512 .bf16) (harg8 : arg8.IsWhole) (arg9 : Memref sig .tc .vmem S512x8x256 .i32) (harg9 : arg9.IsWhole) (arg10 : Memref sig .tc .vmem S32x17x8x256 .i32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x256x256 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .bf16) (harg20 : arg20.IsWhole) (arg21 : Memref sig .tc .vmem S72x2048 .f32) (harg21 : arg21.IsWhole)
    (X2 : BufTy.Contents (Elt F) arg2.view.ty) (X3 : BufTy.Contents (Elt F) arg3.view.ty) (X4 : BufTy.Contents (Elt F) arg4.view.ty)
    (X9 : BufTy.Contents (Elt F) arg9.view.ty) : sProp 𝕄 :=
  iprop(pt (F := F) c arg2 X2 ∗ pt (F := F) c arg3 X3 ∗ pt (F := F) c arg4 X4 ∗ pt (F := F) c arg9 X9
    ∗ (∃ f, pt (F := F) c arg11 f) ∗ (∃ f, pt (F := F) c arg12 f) ∗ (∃ f, pt (F := F) c arg13 f) ∗ (∃ f, pt (F := F) c arg14 f)
    ∗ (∃ f, pt (F := F) c arg15 f) ∗ (∃ f, pt (F := F) c arg16 f) ∗ (∃ f, pt (F := F) c arg17 f) ∗ (∃ f, pt (F := F) c arg18 f)
    ∗ (∃ f, pt (F := F) c arg19 f) ∗ (∃ f, pt (F := F) c arg20 f) ∗ (∃ f, pt (F := F) c arg21 f))

set_option warn.classDefReducibility false in
@[sl_loop] noncomputable def loopInv_k0_t4 (c : Dev nD) (i : grid0.Coords) (arg2 : Memref sig .tc .vmem S1x8x256x64 .bf16) (harg2 : arg2.IsWhole) (arg3 : Memref sig .tc .vmem S1x4096x64 .bf16) (harg3 : arg3.IsWhole) (arg4 : Memref sig .tc .vmem S1x16x72x256 .bf16) (harg4 : arg4.IsWhole) (arg5 : Memref sig .tc .vmem S1x4x256x64 .bf16) (harg5 : arg5.IsWhole) (arg6 : Memref sig .tc .vmem S1x4096x64 .bf16) (harg6 : arg6.IsWhole) (arg7 : Memref sig .tc .vmem S1x8x256 .f32) (harg7 : arg7.IsWhole) (arg8 : Memref sig .tc .vmem S1x256x512 .bf16) (harg8 : arg8.IsWhole) (arg9 : Memref sig .tc .vmem S512x8x256 .i32) (harg9 : arg9.IsWhole) (arg10 : Memref sig .tc .vmem S32x17x8x256 .i32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x256x256 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .bf16) (harg20 : arg20.IsWhole) (arg21 : Memref sig .tc .vmem S72x2048 .f32) (harg21 : arg21.IsWhole)
    (v26 : IVec S8x256 32) (v48 : IVec S8x256 32) (v50 : IVec S8x256 32) (v51 : BitVec 32) (v53 : BitVec 32) (c0_i32_133 : BitVec 32)
    (X2 : BufTy.Contents (Elt F) arg2.view.ty) (X3 : BufTy.Contents (Elt F) arg3.view.ty) (X4 : BufTy.Contents (Elt F) arg4.view.ty)
    (X9 : BufTy.Contents (Elt F) arg9.view.ty) :
    Cert.Kernel.Gen.LoopInvTy_k0_t4 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v26 v48 v50 v51 v53 c0_i32_133 where
  inv := fun k acc => flashInv (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 X9
  step := fun k acc => by
    unfold k0_t4_body
    iintro ⟨H2, H3, H4, H9, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩
    sl_exec
    sl_step
    sl_close

set_option warn.classDefReducibility false in
@[sl_loop] noncomputable def loopInv_k0_t5 (c : Dev nD) (i : grid0.Coords) (arg2 : Memref sig .tc .vmem S1x8x256x64 .bf16) (harg2 : arg2.IsWhole) (arg3 : Memref sig .tc .vmem S1x4096x64 .bf16) (harg3 : arg3.IsWhole) (arg4 : Memref sig .tc .vmem S1x16x72x256 .bf16) (harg4 : arg4.IsWhole) (arg5 : Memref sig .tc .vmem S1x4x256x64 .bf16) (harg5 : arg5.IsWhole) (arg6 : Memref sig .tc .vmem S1x4096x64 .bf16) (harg6 : arg6.IsWhole) (arg7 : Memref sig .tc .vmem S1x8x256 .f32) (harg7 : arg7.IsWhole) (arg8 : Memref sig .tc .vmem S1x256x512 .bf16) (harg8 : arg8.IsWhole) (arg9 : Memref sig .tc .vmem S512x8x256 .i32) (harg9 : arg9.IsWhole) (arg10 : Memref sig .tc .vmem S32x17x8x256 .i32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x256x256 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .bf16) (harg20 : arg20.IsWhole) (arg21 : Memref sig .tc .vmem S72x2048 .f32) (harg21 : arg21.IsWhole)
    (v26 : IVec S8x256 32) (v48 : IVec S8x256 32) (v50 : IVec S8x256 32) (v51 : BitVec 32) (v53 : BitVec 32) (c0_i32_133 : BitVec 32) (v244 : BitVec 32)
    (X2 : BufTy.Contents (Elt F) arg2.view.ty) (X3 : BufTy.Contents (Elt F) arg3.view.ty) (X4 : BufTy.Contents (Elt F) arg4.view.ty)
    (X9 : BufTy.Contents (Elt F) arg9.view.ty) :
    Cert.Kernel.Gen.LoopInvTy_k0_t5 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v26 v48 v50 v51 v53 c0_i32_133 v244 where
  inv := fun k acc => flashInv (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 X9
  step := fun k acc => by
    unfold k0_t5_body
    iintro ⟨H2, H3, H4, H9, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩
    sl_exec
    sl_step
    sl_close

end Cert.Proof.Kernel

end
-- ==== Proof.Body.lean ====
/-
  The frame of the sparse attention kernel: the kernel's body run once over a symbolic grid point, case by case (the
  bit planes cleared at the first point or not; every key kept or the select run), the output's staging buffer and each
  scratch left at some contents.
-/
module

public import proofs.«01_k».proof.Proof.FlashLoops
public import proofs.«01_k».proof.Proof.Gen.Kernel.Frame
public import proofs.«01_k».proof.Proof.Gen.Kernel.Skeleton

@[expose] public section

set_option maxRecDepth 16384
set_option maxHeartbeats 4000000
set_option pp.maxSteps 300

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-- The printed condition of the first point. -/
abbrev firstPoint (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

set_option maxRecDepth 65536 in
/-- The part holding the `cond`, the parts of its second branch called as their skeletons. -/
noncomputable def part149run (i : grid0.Coords) (arg2 : Memref sig .tc .vmem S1x8x256x64 .bf16) (harg2 : arg2.IsWhole) (arg3 : Memref sig .tc .vmem S1x4096x64 .bf16) (harg3 : arg3.IsWhole) (arg4 : Memref sig .tc .vmem S1x16x72x256 .bf16) (harg4 : arg4.IsWhole) (arg5 : Memref sig .tc .vmem S1x4x256x64 .bf16) (harg5 : arg5.IsWhole) (arg6 : Memref sig .tc .vmem S1x4096x64 .bf16) (harg6 : arg6.IsWhole) (arg7 : Memref sig .tc .vmem S1x8x256 .f32) (harg7 : arg7.IsWhole) (arg8 : Memref sig .tc .vmem S1x256x512 .bf16) (harg8 : arg8.IsWhole) (arg9 : Memref sig .tc .vmem S512x8x256 .i32) (harg9 : arg9.IsWhole) (arg10 : Memref sig .tc .vmem S32x17x8x256 .i32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x256x256 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .bf16) (harg20 : arg20.IsWhole) (arg21 : Memref sig .tc .vmem S72x2048 .f32) (harg21 : arg21.IsWhole) (v0 : BitVec 32) (v20 : BitVec 32) (v23 : IVec S1x256 32) (v30 : FVec F S8x256 .f32) (c0_i32_13 : BitVec 32) (v36 : BitVec 32) :
    Prog (TpuEff nD τ sig (Elt F) Λ₀ .tc) (Σ' (v48 : IVec S8x256 32) (v50 : IVec S8x256 32) (v51 : BitVec 32) (v53 : BitVec 32), FVec F S1x2048 .f32) := do
  let v38 : BitVec 32 := Scalar.divsi v36 1#32
  let v39 : BitVec 32 := Scalar.muli v38 1#32
  let v40 : BitVec 32 := Scalar.addi c0_i32_13 v39
  Scf.Loop.for (k0_t1_loop i) (k0_t1_ok i) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v20 v23 v30 c0_i32_13 v36)
  Scf.Loop.for (k0_t2_loop i) (k0_t2_ok i) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v20 v23 v30 c0_i32_13 v36 v40)
  let (v46_0, v46_1) : IVec S1x256 32 × IVec S1x256 32 ← if k0_h2 : k0_cond2 i = 1#1 then do
      pure (k0_pay1546, k0_pay1545)
    else do
      let ⟨v325_0, v325_2, v327, v330, v354, v357, v358, v359⟩ : Σ' (v325_0 : IVec S16x8x256 32) (v325_2 : IVec S1x256 32) (v327 : IVec S1x256 32) (v330 : IVec S16x1x256 32) (v354 : IVec S1x256 32) (v357 : IVec S1x256 32) (v358 : IVec S1x256 1), IVec S1x256 32 ← k0_part105_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 k0_h2
      let ⟨v406, v408, v410, v411⟩ : Σ' (v406 : IVec S1x256 32) (v408 : IVec S1x256 32) (v410 : IVec S1x256 32), IVec S1x1x256 32 ← k0_part106_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v327 v330 v354 v357 v358 v359
      let ⟨v443, v445, v460, v462⟩ : Σ' (v443 : IVec S1x256 32) (v445 : IVec S1x256 32) (v460 : IVec S8x256 32), IVec S1x256 1 ← k0_part107_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v325_0 v327 v330 v406 v408 v410 v411
      let ⟨v509, v513, v515⟩ : Σ' (v509 : IVec S8x256 32) (v513 : IVec S8x256 32), IVec S8x256 1 ← k0_part108_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v325_0 v445 v460 v462
      let ⟨v558, v559, v560, v562, v564, v565⟩ : Σ' (v558 : IVec S8x256 32) (v559 : IVec S1x256 32) (v560 : IVec S1x256 32) (v562 : IVec S1x256 32) (v564 : IVec S1x256 32), IVec S1x256 32 ← k0_part109_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v325_0 v327 v443 v445 v509 v513 v515
      let v612 : IVec S1x256 32 ← k0_part110_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v558 v559 v560 v562 v564 v565
      let ⟨v625, v639, v646, v647, v648, v650, v657⟩ : Σ' (v625 : IVec S1x256 32) (v639 : IVec S1x256 32) (v646 : IVec S8x256 32) (v647 : IVec S8x256 32) (v648 : IVec S1x256 32) (v650 : IVec S1x256 32), IVec S1x256 1 ← k0_part111_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v558 v559 v612
      pure (k0_pay1548 v325_2, k0_pay1547 v445 v625 v639 v646 v647 v648 v650 v657)
  let v51 : BitVec 32 := Scalar.muli v20 1#32
  let v52 : BitVec 32 := Scalar.muli 2#32 v51
  let v53 : BitVec 32 := Scalar.subi v52 1#32
  let v55 : Vec F S1x2048 .f32 ← Prog.lift (.load arg11 (Rect.unit (s := S1x2048) ![0, 0] S1x2048.size inb_S1x2048_S1x2048_0_0).toLoadRect (View.loadsAt_vmem h_S1x2048))
  Prog.lift (.store arg11 (Rect.unit (s := S1x2048) ![0, 0] S1x2048.size inb_S1x2048_S1x2048_0_0) (k0_pay1551 (F := F)) Finset.univ (View.stores_vmem_bits_univ h_S1x2048 rfl) (.inl rfl))
  let v59 : Vec F S72x2048 .f32 ← Prog.lift (.load arg21 (Rect.unit (s := S72x2048) ![0, 0] S72x2048.size inb_S72x2048_S72x2048_0_0).toLoadRect (View.loadsAt_vmem h_S72x2048))
  Prog.lift (.store arg21 (Rect.unit (s := S72x2048) ![0, 0] S72x2048.size inb_S72x2048_S72x2048_0_0) (k0_pay1552 (F := F)) Finset.univ (View.stores_vmem_bits_univ h_S72x2048 rfl) (.inl rfl))
  let v63 : Vec F S256x2048 .bf16 ← Prog.lift (.load arg20 (Rect.unit (s := S256x2048) ![0, 0] S256x2048.size inb_S256x2048_S256x2048_0_0).toLoadRect (View.loadsAt_vmem h_S256x2048))
  Prog.lift (.store arg20 (Rect.unit (s := S256x2048) ![0, 0] S256x2048.size inb_S256x2048_S256x2048_0_0) (k0_pay1553 (F := F)) Finset.univ (View.stores_vmem h_S256x2048 (harg20.storeExact_slice rfl _ packedbf16_S256x2048_S256x2048_0_0) (fun _ => rfl)) (.inl rfl))
  let v67 : Vec F S1x2048 .f32 ← Prog.lift (.load arg15 (Rect.unit (s := S1x2048) ![0, 0] S1x2048.size inb_S1x2048_S1x2048_0_0).toLoadRect (View.loadsAt_vmem h_S1x2048))
  pure ⟨k0_pay1549 v46_0, k0_pay1550 v46_1, v51, v53, k0_pay1554 (F := F)⟩

set_option maxRecDepth 65536 in
theorem k0_part149_eq_run : k0_part149 (F := F) = part149run (F := F) := rfl

set_option maxRecDepth 65536 in
/-- The body, its `cond` in the spelling `part149run`. -/
noncomputable def bodyProg (i : grid0.Coords) (arg2 : Memref sig .tc .vmem S1x8x256x64 .bf16) (harg2 : arg2.IsWhole) (arg3 : Memref sig .tc .vmem S1x4096x64 .bf16) (harg3 : arg3.IsWhole) (arg4 : Memref sig .tc .vmem S1x16x72x256 .bf16) (harg4 : arg4.IsWhole) (arg5 : Memref sig .tc .vmem S1x4x256x64 .bf16) (harg5 : arg5.IsWhole) (arg6 : Memref sig .tc .vmem S1x4096x64 .bf16) (harg6 : arg6.IsWhole) (arg7 : Memref sig .tc .vmem S1x8x256 .f32) (harg7 : arg7.IsWhole) (arg8 : Memref sig .tc .vmem S1x256x512 .bf16) (harg8 : arg8.IsWhole) (arg9 : Memref sig .tc .vmem S512x8x256 .i32) (harg9 : arg9.IsWhole) (arg10 : Memref sig .tc .vmem S32x17x8x256 .i32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x256x256 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .bf16) (harg20 : arg20.IsWhole) (arg21 : Memref sig .tc .vmem S72x2048 .f32) (harg21 : arg21.IsWhole) :
    Prog (TpuEff nD τ sig (Elt F) Λ₀ .tc) PUnit := do
  let ⟨v0, v20, v23, v26, v30, c0_i32_13, v36⟩ : Σ' (v0 : BitVec 32) (v20 : BitVec 32) (v23 : IVec S1x256 32) (v26 : IVec S8x256 32) (v30 : FVec F S8x256 .f32) (c0_i32_13 : BitVec 32), BitVec 32 ← k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  let ⟨v48, v50, v51, v53, v69⟩ : Σ' (v48 : IVec S8x256 32) (v50 : IVec S8x256 32) (v51 : BitVec 32) (v53 : BitVec 32), FVec F S1x2048 .f32 ← part149run i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v20 v23 v30 c0_i32_13 v36
  let v70 : BitVec 32 ← k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v26 v48 v50 v53 v69
  k0_part151 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v70
  let v175 : BitVec 32 ← k0_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v70
  let v208 : BitVec 32 ← k0_part153 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v70 v175
  let c0_i32_133 : BitVec 32 ← k0_part154 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v208
  let v267 : FVec F S72x512 .f32 ← k0_part155 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v26 v48 v50 v51 v53 c0_i32_133
  let ⟨v298, v300⟩ : Σ' (v298 : FVec F S64x2048 .f32), FVec F S64x2048 .f32 ← k0_part156 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v53 v267
  let v313 : Vec F S1x256x512 .bf16 ← Prog.lift (.load arg8 (Rect.unit (s := S1x256x512) ![0, 0, 0] S1x256x512.size inb_S1x256x512_S1x256x512_0_0_0).toLoadRect (View.loadsAt_vmem h_S1x256x512))
  Prog.lift (.store arg8 (Rect.unit (s := S1x256x512) ![0, 0, 0] S1x256x512.size inb_S1x256x512_S1x256x512_0_0_0) (k0_pay1 v298 v300) Finset.univ (View.stores_vmem h_S1x256x512 (harg8.storeExact_slice rfl _ packedbf16_S1x256x512_S1x256x512_0_0_0) (fun _ => rfl)) (.inl rfl))
  pure ⟨⟩

set_option maxRecDepth 65536 in
theorem cc0_dsa_eq_run : cc0_dsa (F := F) = bodyProg (F := F) := rfl

/-- What the body owns beside the windows it reads. -/
abbrev scratches (c : Dev nD) (arg2 : Memref sig .tc .vmem S1x8x256x64 .bf16) (harg2 : arg2.IsWhole) (arg3 : Memref sig .tc .vmem S1x4096x64 .bf16) (harg3 : arg3.IsWhole) (arg4 : Memref sig .tc .vmem S1x16x72x256 .bf16) (harg4 : arg4.IsWhole) (arg5 : Memref sig .tc .vmem S1x4x256x64 .bf16) (harg5 : arg5.IsWhole) (arg6 : Memref sig .tc .vmem S1x4096x64 .bf16) (harg6 : arg6.IsWhole) (arg7 : Memref sig .tc .vmem S1x8x256 .f32) (harg7 : arg7.IsWhole) (arg8 : Memref sig .tc .vmem S1x256x512 .bf16) (harg8 : arg8.IsWhole) (arg9 : Memref sig .tc .vmem S512x8x256 .i32) (harg9 : arg9.IsWhole) (arg10 : Memref sig .tc .vmem S32x17x8x256 .i32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x256x256 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .bf16) (harg20 : arg20.IsWhole) (arg21 : Memref sig .tc .vmem S72x2048 .f32) (harg21 : arg21.IsWhole) : sProp 𝕄 :=
  iprop((∃ f, pt (F := F) c arg9 f) ∗ (∃ f, pt (F := F) c arg10 f)
    ∗ (∃ f, pt (F := F) c arg11 f) ∗ (∃ f, pt (F := F) c arg12 f) ∗ (∃ f, pt (F := F) c arg13 f) ∗ (∃ f, pt (F := F) c arg14 f)
    ∗ (∃ f, pt (F := F) c arg15 f) ∗ (∃ f, pt (F := F) c arg16 f) ∗ (∃ f, pt (F := F) c arg17 f) ∗ (∃ f, pt (F := F) c arg18 f)
    ∗ (∃ f, pt (F := F) c arg19 f) ∗ (∃ f, pt (F := F) c arg20 f) ∗ (∃ f, pt (F := F) c arg21 f))

theorem bodyRun (c : Dev nD) (i : grid0.Coords) (arg2 : Memref sig .tc .vmem S1x8x256x64 .bf16) (harg2 : arg2.IsWhole) (arg3 : Memref sig .tc .vmem S1x4096x64 .bf16) (harg3 : arg3.IsWhole) (arg4 : Memref sig .tc .vmem S1x16x72x256 .bf16) (harg4 : arg4.IsWhole) (arg5 : Memref sig .tc .vmem S1x4x256x64 .bf16) (harg5 : arg5.IsWhole) (arg6 : Memref sig .tc .vmem S1x4096x64 .bf16) (harg6 : arg6.IsWhole) (arg7 : Memref sig .tc .vmem S1x8x256 .f32) (harg7 : arg7.IsWhole) (arg8 : Memref sig .tc .vmem S1x256x512 .bf16) (harg8 : arg8.IsWhole) (arg9 : Memref sig .tc .vmem S512x8x256 .i32) (harg9 : arg9.IsWhole) (arg10 : Memref sig .tc .vmem S32x17x8x256 .i32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x256x256 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .bf16) (harg20 : arg20.IsWhole) (arg21 : Memref sig .tc .vmem S72x2048 .f32) (harg21 : arg21.IsWhole)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty) :
    iprop(pt (F := F) c arg2 X2 ∗ pt (F := F) c arg3 X3 ∗ pt (F := F) c arg4 X4 ∗ pt (F := F) c arg5 X5 ∗ pt (F := F) c arg6 X6 ∗ pt (F := F) c arg7 X7
        ∗ (∃ f, pt (F := F) c arg8 f) ∗ scratches (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
      ⊢ wp frame (wpE (defs₀ (F := F)) Variants.none c none) Set.univ (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(pt (F := F) c arg2 X2 ∗ pt (F := F) c arg3 X3 ∗ pt (F := F) c arg4 X4 ∗ pt (F := F) c arg5 X5 ∗ pt (F := F) c arg6 X6 ∗ pt (F := F) c arg7 X7
            ∗ (∃ f, pt (F := F) c arg8 f) ∗ scratches (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)) := by
  rw [cc0_dsa_eq_run]; unfold bodyProg
  by_cases h1 : firstPoint i = 1#1 <;> by_cases h2 : k0_cond2 i = 1#1
  all_goals
    iintro ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩
    sl_exec
    sl_step
    sl_close

end Cert.Proof.Kernel

end
-- ==== Proof.Launch.lean ====
/-
  The launch of the sparse attention kernel: the proof data of its one pipelined region, the body's obligation from
  `bodyRun`, and the run of `@main`, the output's window forgotten.
-/
module

public import proofs.«01_k».proof.Proof.Body
public import proofs.«01_k».proof.Proof.Gen.Kernel.Points
public import Idealize.ShloMosaic.Lib.Pipeline.Frame

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Only the output's window is forgotten. -/
def forgets0 : Fin 7 → Bool := fun w => w == 6

/-- The proof data on core `c`: the arrays as the region finds them, an input's block left in place, the output's unnamed. -/
def dats (_ : Fin 1) (c : Dev nD) : Dat τ (Elt F) Unit ℕ (UR sig nD τ) ℕ cfg0 c where
  A w := V m c (Pipeline.arrRef spec0 w)
  after w t := match w with
    | 6 => Pipeline.Dat.unnamed (cfg := cfg0) 6 t
    | 0 => iblk m c 0 t | 1 => iblk m c 1 t | 2 => iblk m c 2 t | 3 => iblk m c 3 t | 4 => iblk m c 4 t | 5 => iblk m c 5 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d

/-- The invariant, conjunct by conjunct: each scratch owned at some contents, the generator register at some state. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d)) ∗ (∃ r, prngReg c r)) := by
  unfold Pipeline.ΦA; rw [scopedRest0_eq]; simp only [owns_whole]; try rfl

/-- The body's run at point `t`, on the operands the pipeline passes. -/
theorem bodyRunAt (c : Dev nD) (t : Fin cfg0.N) (X0 : BufTy.Contents (Elt F) (st0_0 t).view.ty) (X1 : BufTy.Contents (Elt F) (st0_1 t).view.ty) (X2 : BufTy.Contents (Elt F) (st0_2 t).view.ty) (X3 : BufTy.Contents (Elt F) (st0_3 t).view.ty) (X4 : BufTy.Contents (Elt F) (st0_4 t).view.ty) (X5 : BufTy.Contents (Elt F) (st0_5 t).view.ty) :
    iprop(pt (F := F) c (st0_0 t) X0 ∗ pt (F := F) c (st0_1 t) X1 ∗ pt (F := F) c (st0_2 t) X2 ∗ pt (F := F) c (st0_3 t) X3 ∗ pt (F := F) c (st0_4 t) X4 ∗ pt (F := F) c (st0_5 t) X5 ∗ (∃ f, pt (F := F) c (st0_6 t) f) ∗ scratches (F := F) c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12))
      ⊢ wp frame (wpE (defs₀ (F := F)) Variants.none c none) Set.univ (bodyAt0 t) (fun _ => iprop(pt (F := F) c (st0_0 t) X0 ∗ pt (F := F) c (st0_1 t) X1 ∗ pt (F := F) c (st0_2 t) X2 ∗ pt (F := F) c (st0_3 t) X3 ∗ pt (F := F) c (st0_4 t) X4 ∗ pt (F := F) c (st0_5 t) X5 ∗ (∃ f, pt (F := F) c (st0_6 t) f) ∗ scratches (F := F) c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12))) :=
  bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) X0 X1 X2 X3 X4 X5

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ d, owns (c : Thread nD τ) (st0_6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  rw [show (dats m 0 c).after 0 t = iblk m c 0 t from rfl]
  rw [show (dats m 0 c).after 1 t = iblk m c 1 t from rfl]
  rw [show (dats m 0 c).after 2 t = iblk m c 2 t from rfl]
  rw [show (dats m 0 c).after 3 t = iblk m c 3 t from rfl]
  rw [show (dats m 0 c).after 4 t = iblk m c 4 t from rfl]
  rw [show (dats m 0 c).after 5 t = iblk m c 5 t from rfl]
  unfold owns
  iintro ⟨⟨⟨⟨%s0, %f0, -, S0⟩, ⟨%s1, %f1, -, S1⟩, ⟨%s2, %f2, -, S2⟩, ⟨%s3, %f3, -, S3⟩, ⟨%s4, %f4, -, S4⟩, ⟨%s5, %f5, -, S5⟩, ⟨%s6, %f6, -, S6⟩, ⟨%s7, %f7, -, S7⟩, ⟨%s8, %f8, -, S8⟩, ⟨%s9, %f9, -, S9⟩, ⟨%s10, %f10, -, S10⟩, ⟨%s11, %f11, -, S11⟩, ⟨%s12, %f12, -, S12⟩⟩, Hg⟩, HO, ⟨%d0, %X0, %hX0, H0⟩, ⟨%d1, %X1, %hX1, H1⟩, ⟨%d2, %X2, %hX2, H2⟩, ⟨%d3, %X3, %hX3, H3⟩, ⟨%d4, %X4, %hX4, H4⟩, ⟨%d5, %X5, %hX5, H5⟩, ⟨%d6, %X6, -, H6⟩⟩
  iapply (wp_wand_r frame (wpE (defs₀ (F := F)) Variants.none c none) Set.univ)
  isplitl [H0 H1 H2 H3 H4 H5 H6 S0 S1 S2 S3 S4 S5 S6 S7 S8 S9 S10 S11 S12]
  · iapply (bodyRunAt c t X0 X1 X2 X3 X4 X5)
    isplitl [H0]; · iexact H0
    isplitl [H1]; · iexact H1
    isplitl [H2]; · iexact H2
    isplitl [H3]; · iexact H3
    isplitl [H4]; · iexact H4
    isplitl [H5]; · iexact H5
    isplitl [H6]; · iexists X6; iexact H6
    isplitl [S0]; · iexists f0; iexact S0
    isplitl [S1]; · iexists f1; iexact S1
    isplitl [S2]; · iexists f2; iexact S2
    isplitl [S3]; · iexists f3; iexact S3
    isplitl [S4]; · iexists f4; iexact S4
    isplitl [S5]; · iexists f5; iexact S5
    isplitl [S6]; · iexists f6; iexact S6
    isplitl [S7]; · iexists f7; iexact S7
    isplitl [S8]; · iexists f8; iexact S8
    isplitl [S9]; · iexists f9; iexact S9
    isplitl [S10]; · iexists f10; iexact S10
    isplitl [S11]; · iexists f11; iexact S11
    iexists f12; iexact S12
  iintro %r ⟨H0, H1, H2, H3, H4, H5, ⟨%e, H6⟩, ⟨%e0, S0⟩, ⟨%e1, S1⟩, ⟨%e2, S2⟩, ⟨%e3, S3⟩, ⟨%e4, S4⟩, ⟨%e5, S5⟩, ⟨%e6, S6⟩, ⟨%e7, S7⟩, ⟨%e8, S8⟩, ⟨%e9, S9⟩, ⟨%e10, S10⟩, ⟨%e11, S11⟩, ⟨%e12, S12⟩⟩
  isplitl [Hg S0 S1 S2 S3 S4 S5 S6 S7 S8 S9 S10 S11 S12]
  · isplitl [S0 S1 S2 S3 S4 S5 S6 S7 S8 S9 S10 S11 S12]
    · isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      isplitl [S3]
      · iexists _, _; isplitr; swap; · iexact S3
        ipureintro; rfl
      isplitl [S4]
      · iexists _, _; isplitr; swap; · iexact S4
        ipureintro; rfl
      isplitl [S5]
      · iexists _, _; isplitr; swap; · iexact S5
        ipureintro; rfl
      isplitl [S6]
      · iexists _, _; isplitr; swap; · iexact S6
        ipureintro; rfl
      isplitl [S7]
      · iexists _, _; isplitr; swap; · iexact S7
        ipureintro; rfl
      isplitl [S8]
      · iexists _, _; isplitr; swap; · iexact S8
        ipureintro; rfl
      isplitl [S9]
      · iexists _, _; isplitr; swap; · iexact S9
        ipureintro; rfl
      isplitl [S10]
      · iexists _, _; isplitr; swap; · iexact S10
        ipureintro; rfl
      isplitl [S11]
      · iexists _, _; isplitr; swap; · iexact S11
        ipureintro; rfl
      iexists _, _; isplitr; swap; · iexact S12
      ipureintro; rfl
    iexact Hg
  isplitl [HO]; · iexact HO
  isplitl [H0]
  · iexists X0; isplitr; · ipureintro; exact hX0
    iexact H0
  isplitl [H1]
  · iexists X1; isplitr; · ipureintro; exact hX1
    iexact H1
  isplitl [H2]
  · iexists X2; isplitr; · ipureintro; exact hX2
    iexact H2
  isplitl [H3]
  · iexists X3; isplitr; · ipureintro; exact hX3
    iexact H3
  isplitl [H4]
  · iexists X4; isplitr; · ipureintro; exact hX4
    iexact H4
  isplitl [H5]
  · iexists X5; isplitr; · ipureintro; exact hX5
    iexact H5
  iexists _, _; isplitr; swap; · iexact H6
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this statement
set_option backward.isDefEq.respectTransparency.types false in
/-- From any memory with zero counters every weakly fair execution of `@main` terminates; an input's array and every
    counter end as they began, and nothing is said of the output's array. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m ρ}

/-- An input window's array after the run. -/
theorem final_in {r : PUnit × MemSt nD τ sig (Elt F)}
    (h : Pipeline.RDat.FramePost (cfgs 0) (fun c => (dats (F := F) m 0 c).toRForget forgets0) (V m) r) (c : Dev nD) (w : Fin cfg0.W)
    (hin : (cfg0.win w).isOut = false) :
    r.2.mem ((c : Thread nD τ).loc (Pipeline.arrRef spec0 w)) = V m c (Pipeline.arrRef spec0 w) :=
  (h.arr_in c w hin).trans (A_eq m c w)

end Cert.Proof.Kernel

end
-- ==== Proof.Ffn.lean ====
/-
  What the feed-forward call leaves in its result: at every row and column, half of the SwiGLU of the normalised rows added to
  the rows, which is the plain formula's own term.
-/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Proof.Ffn

open Idealize.ShloMosaic Idealize.ShloMosaic.TcCoe Idealize.SL.Sem
open Idealize.ShloMosaic.Pipeline (Dat)
section
open Cert.Reference2Ideal Cert.Reference2Ideal.Gen

/-- The rows divided by their root mean square and scaled by the gain. -/
def normed (X : FVec Ideal S8x4096x1024 .f32) (G : FVec Ideal S1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))

/-- The normalised rows times a weight. -/
def proj (X : FVec Ideal S8x4096x1024 .f32) (G : FVec Ideal S1024 .f32) (W : FVec Ideal S1024x2816 .f32) : FVec Ideal S8x4096x2816 .f32 :=
  Host.dotGeneral dot_S8x4096x1024_S1024x2816_S8x4096x2816_2_0_01_1_n_n none (normed X G) W

/-- The plain formula's result, of the five arrays. -/
def plain (X : FVec Ideal S8x4096x1024 .f32) (G : FVec Ideal S1024 .f32) (Wg Wu : FVec Ideal S1024x2816 .f32)
    (Wd : FVec Ideal S2816x1024 .f32) : FVec Ideal S8x4096x1024 .f32 :=
  addf X (mulf (broadcastInDim S8x4096x1024 ![] bcast_S_S8x4096x1024 (constant S_ .f32 0x3F000000#32))
    (Host.dotGeneral dot_S8x4096x2816_S2816x1024_S8x4096x1024_2_0_01_1_n_n none
      (mulf (mulf (proj X G Wg) (Host.divf (broadcastInDim S8x4096x2816 ![] bcast_S_S8x4096x2816 (constant S_ .f32 0x3F800000#32))
        (addf (broadcastInDim S8x4096x2816 ![] bcast_S_S8x4096x2816 (constant S_ .f32 0x3F800000#32)) (Host.exp (Host.negf (proj X G Wg))))))
        (proj X G Wu)) Wd))

end

section
variable (m : (ℓ : Loc Cert.Kernel2Ideal.nD Cert.Kernel2Ideal.τ Cert.Kernel2Ideal.sig) → Buf (Elt Ideal) ℓ)
open Cert.Kernel2Ideal Cert.Kernel2Ideal.Gen

/-- Where each window's block sits at a grid point. -/
theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0] ∧ win0_5.index t = ![t.val / 8, t.val % 8, 0] :=
  (by decide +kernel : ∀ t : Fin grid0.N, _)

/-- A stored element is the plain formula's at the place the block puts it. -/
theorem point (c : Dev nD) (t : Fin cfg0.N) (y) :
    k0_pay1 (iblk m c 0 t) (iblk m c 1 t) (iblk m c 2 t) (iblk m c 3 t) (iblk m c 4 t) y
    = plain (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  pointwise [k0_pay1, plain, proj, normed]
  simp only [Ideal.logistic]
  blk_point [iblk, V, idx t]

/-- The result array after the run. -/
theorem final (c : Dev nD) : (dats m 0 c).arrAt 5 cfg0.N
    = plain (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end

end Cert.Proof.Ffn

end
-- ==== Proof.Pool.lean ====
/-
  The merge call's pooling branch: each group of columns takes the mean of a trailing window less the token itself, through its weight.
-/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Proof.Merge

open Idealize.ShloMosaic Idealize.ShloMosaic.TcCoe Idealize.SL.Sem
open Idealize.ShloMosaic.Pipeline (Dat)
section
open Cert.Reference3Ideal Cert.Reference3Ideal.Gen

/-- The sum of the last 2 tokens of a group's columns, a missing one counting nothing. -/
def window0 (X : FVec Ideal S8x4096x128 .f32) : FVec Ideal S8x4096x128 .f32 :=
  (addf X (extractStridedSlice S8x4096x128 ![0, 0, 0] (pad S8x4097x128 ![0, 1, 0] ![0, 0, 0] ![0, 0, 0] X (sitofp .f32 (constantI S_ 32 0#32)) pads_S8x4096x128_S8x4097x128_000_100_000 h_S_) slices_S8x4097x128_S8x4096x128_0_0_0))

/-- The number of tokens in that window. -/
def count0 : FVec Ideal S8x4096x128 .f32 :=
  (broadcastInDim S8x4096x128 ![0, 1, 2] bcast_S1x4096x1_S8x4096x128_0_1_2 (broadcastInDim S1x4096x1 ![1] bcast_S4096_S1x4096x1_1 (sitofp .f32 (subi (addi (iotaInDim S4096 32 0) (broadcastInDim S4096 ![] bcast_S_S4096 (constantI S_ 32 1#32))) (maxsi (subi (addi (iotaInDim S4096 32 0) (broadcastInDim S4096 ![] bcast_S_S4096 (constantI S_ 32 1#32))) (broadcastInDim S4096 ![] bcast_S_S4096 (constantI S_ 32 2#32))) (broadcastInDim S4096 ![] bcast_S_S4096 (constantI S_ 32 0#32)))))))

/-- The group's columns. -/
def group0 (U : FVec Ideal S8x4096x512 .f32) : FVec Ideal S8x4096x128 .f32 :=
  extractStridedSlice S8x4096x128 ![0, 0, 0] U slices_S8x4096x512_S8x4096x128_0_0_0

/-- The window's mean less the token, through the group's weight. -/
def pooled0 (U : FVec Ideal S8x4096x512 .f32) (W : FVec Ideal S4x128x128 .f32) : FVec Ideal S8x4096x128 .f32 :=
  Host.dotGeneral dot_S8x4096x128_S128x128_S8x4096x128_2_0_01_1_n_n none (subf (Host.divf (window0 (group0 U)) count0) (group0 U))
    (shapeCast _ (extractStridedSlice S1x128x128 ![0, 0, 0] W slices_S4x128x128_S1x128x128_0_0_0) shapeCasts_S1x128x128_S128x128)

/-- The sum of the last 4 tokens of a group's columns, a missing one counting nothing. -/
def window1 (X : FVec Ideal S8x4096x128 .f32) : FVec Ideal S8x4096x128 .f32 :=
  (addf (addf (addf X (extractStridedSlice S8x4096x128 ![0, 0, 0] (pad S8x4097x128 ![0, 1, 0] ![0, 0, 0] ![0, 0, 0] X (sitofp .f32 (constantI S_ 32 0#32)) pads_S8x4096x128_S8x4097x128_000_100_000 h_S_) slices_S8x4097x128_S8x4096x128_0_0_0)) (extractStridedSlice S8x4096x128 ![0, 0, 0] (pad S8x4098x128 ![0, 2, 0] ![0, 0, 0] ![0, 0, 0] X (sitofp .f32 (constantI S_ 32 0#32)) pads_S8x4096x128_S8x4098x128_000_200_000 h_S_) slices_S8x4098x128_S8x4096x128_0_0_0)) (extractStridedSlice S8x4096x128 ![0, 0, 0] (pad S8x4099x128 ![0, 3, 0] ![0, 0, 0] ![0, 0, 0] X (sitofp .f32 (constantI S_ 32 0#32)) pads_S8x4096x128_S8x4099x128_000_300_000 h_S_) slices_S8x4099x128_S8x4096x128_0_0_0))

/-- The number of tokens in that window. -/
def count1 : FVec Ideal S8x4096x128 .f32 :=
  (broadcastInDim S8x4096x128 ![0, 1, 2] bcast_S1x4096x1_S8x4096x128_0_1_2 (broadcastInDim S1x4096x1 ![1] bcast_S4096_S1x4096x1_1 (sitofp .f32 (subi (addi (iotaInDim S4096 32 0) (broadcastInDim S4096 ![] bcast_S_S4096 (constantI S_ 32 1#32))) (maxsi (subi (addi (iotaInDim S4096 32 0) (broadcastInDim S4096 ![] bcast_S_S4096 (constantI S_ 32 1#32))) (broadcastInDim S4096 ![] bcast_S_S4096 (constantI S_ 32 4#32))) (broadcastInDim S4096 ![] bcast_S_S4096 (constantI S_ 32 0#32)))))))

/-- The group's columns. -/
def group1 (U : FVec Ideal S8x4096x512 .f32) : FVec Ideal S8x4096x128 .f32 :=
  extractStridedSlice S8x4096x128 ![0, 0, 128] U slices_S8x4096x512_S8x4096x128_0_0_128

/-- The window's mean less the token, through the group's weight. -/
def pooled1 (U : FVec Ideal S8x4096x512 .f32) (W : FVec Ideal S4x128x128 .f32) : FVec Ideal S8x4096x128 .f32 :=
  Host.dotGeneral dot_S8x4096x128_S128x128_S8x4096x128_2_0_01_1_n_n none (subf (Host.divf (window1 (group1 U)) count1) (group1 U))
    (shapeCast _ (extractStridedSlice S1x128x128 ![1, 0, 0] W slices_S4x128x128_S1x128x128_1_0_0) shapeCasts_S1x128x128_S128x128)

/-- The sum of the last 8 tokens of a group's columns, a missing one counting nothing. -/
def window2 (X : FVec Ideal S8x4096x128 .f32) : FVec Ideal S8x4096x128 .f32 :=
  (addf (addf (addf (addf (addf (addf (addf X (extractStridedSlice S8x4096x128 ![0, 0, 0] (pad S8x4097x128 ![0, 1, 0] ![0, 0, 0] ![0, 0, 0] X (sitofp .f32 (constantI S_ 32 0#32)) pads_S8x4096x128_S8x4097x128_000_100_000 h_S_) slices_S8x4097x128_S8x4096x128_0_0_0)) (extractStridedSlice S8x4096x128 ![0, 0, 0] (pad S8x4098x128 ![0, 2, 0] ![0, 0, 0] ![0, 0, 0] X (sitofp .f32 (constantI S_ 32 0#32)) pads_S8x4096x128_S8x4098x128_000_200_000 h_S_) slices_S8x4098x128_S8x4096x128_0_0_0)) (extractStridedSlice S8x4096x128 ![0, 0, 0] (pad S8x4099x128 ![0, 3, 0] ![0, 0, 0] ![0, 0, 0] X (sitofp .f32 (constantI S_ 32 0#32)) pads_S8x4096x128_S8x4099x128_000_300_000 h_S_) slices_S8x4099x128_S8x4096x128_0_0_0)) (extractStridedSlice S8x4096x128 ![0, 0, 0] (pad S8x4100x128 ![0, 4, 0] ![0, 0, 0] ![0, 0, 0] X (sitofp .f32 (constantI S_ 32 0#32)) pads_S8x4096x128_S8x4100x128_000_400_000 h_S_) slices_S8x4100x128_S8x4096x128_0_0_0)) (extractStridedSlice S8x4096x128 ![0, 0, 0] (pad S8x4101x128 ![0, 5, 0] ![0, 0, 0] ![0, 0, 0] X (sitofp .f32 (constantI S_ 32 0#32)) pads_S8x4096x128_S8x4101x128_000_500_000 h_S_) slices_S8x4101x128_S8x4096x128_0_0_0)) (extractStridedSlice S8x4096x128 ![0, 0, 0] (pad S8x4102x128 ![0, 6, 0] ![0, 0, 0] ![0, 0, 0] X (sitofp .f32 (constantI S_ 32 0#32)) pads_S8x4096x128_S8x4102x128_000_600_000 h_S_) slices_S8x4102x128_S8x4096x128_0_0_0)) (extractStridedSlice S8x4096x128 ![0, 0, 0] (pad S8x4103x128 ![0, 7, 0] ![0, 0, 0] ![0, 0, 0] X (sitofp .f32 (constantI S_ 32 0#32)) pads_S8x4096x128_S8x4103x128_000_700_000 h_S_) slices_S8x4103x128_S8x4096x128_0_0_0))

/-- The number of tokens in that window. -/
def count2 : FVec Ideal S8x4096x128 .f32 :=
  (broadcastInDim S8x4096x128 ![0, 1, 2] bcast_S1x4096x1_S8x4096x128_0_1_2 (broadcastInDim S1x4096x1 ![1] bcast_S4096_S1x4096x1_1 (sitofp .f32 (subi (addi (iotaInDim S4096 32 0) (broadcastInDim S4096 ![] bcast_S_S4096 (constantI S_ 32 1#32))) (maxsi (subi (addi (iotaInDim S4096 32 0) (broadcastInDim S4096 ![] bcast_S_S4096 (constantI S_ 32 1#32))) (broadcastInDim S4096 ![] bcast_S_S4096 (constantI S_ 32 8#32))) (broadcastInDim S4096 ![] bcast_S_S4096 (constantI S_ 32 0#32)))))))

/-- The group's columns. -/
def group2 (U : FVec Ideal S8x4096x512 .f32) : FVec Ideal S8x4096x128 .f32 :=
  extractStridedSlice S8x4096x128 ![0, 0, 256] U slices_S8x4096x512_S8x4096x128_0_0_256

/-- The window's mean less the token, through the group's weight. -/
def pooled2 (U : FVec Ideal S8x4096x512 .f32) (W : FVec Ideal S4x128x128 .f32) : FVec Ideal S8x4096x128 .f32 :=
  Host.dotGeneral dot_S8x4096x128_S128x128_S8x4096x128_2_0_01_1_n_n none (subf (Host.divf (window2 (group2 U)) count2) (group2 U))
    (shapeCast _ (extractStridedSlice S1x128x128 ![2, 0, 0] W slices_S4x128x128_S1x128x128_2_0_0) shapeCasts_S1x128x128_S128x128)

/-- The sum of the last 16 tokens of a group's columns, a missing one counting nothing. -/
def window3 (X : FVec Ideal S8x4096x128 .f32) : FVec Ideal S8x4096x128 .f32 :=
  (addf (addf (addf (addf (addf (addf (addf (addf (addf (addf (addf (addf (addf (addf (addf X (extractStridedSlice S8x4096x128 ![0, 0, 0] (pad S8x4097x128 ![0, 1, 0] ![0, 0, 0] ![0, 0, 0] X (sitofp .f32 (constantI S_ 32 0#32)) pads_S8x4096x128_S8x4097x128_000_100_000 h_S_) slices_S8x4097x128_S8x4096x128_0_0_0)) (extractStridedSlice S8x4096x128 ![0, 0, 0] (pad S8x4098x128 ![0, 2, 0] ![0, 0, 0] ![0, 0, 0] X (sitofp .f32 (constantI S_ 32 0#32)) pads_S8x4096x128_S8x4098x128_000_200_000 h_S_) slices_S8x4098x128_S8x4096x128_0_0_0)) (extractStridedSlice S8x4096x128 ![0, 0, 0] (pad S8x4099x128 ![0, 3, 0] ![0, 0, 0] ![0, 0, 0] X (sitofp .f32 (constantI S_ 32 0#32)) pads_S8x4096x128_S8x4099x128_000_300_000 h_S_) slices_S8x4099x128_S8x4096x128_0_0_0)) (extractStridedSlice S8x4096x128 ![0, 0, 0] (pad S8x4100x128 ![0, 4, 0] ![0, 0, 0] ![0, 0, 0] X (sitofp .f32 (constantI S_ 32 0#32)) pads_S8x4096x128_S8x4100x128_000_400_000 h_S_) slices_S8x4100x128_S8x4096x128_0_0_0)) (extractStridedSlice S8x4096x128 ![0, 0, 0] (pad S8x4101x128 ![0, 5, 0] ![0, 0, 0] ![0, 0, 0] X (sitofp .f32 (constantI S_ 32 0#32)) pads_S8x4096x128_S8x4101x128_000_500_000 h_S_) slices_S8x4101x128_S8x4096x128_0_0_0)) (extractStridedSlice S8x4096x128 ![0, 0, 0] (pad S8x4102x128 ![0, 6, 0] ![0, 0, 0] ![0, 0, 0] X (sitofp .f32 (constantI S_ 32 0#32)) pads_S8x4096x128_S8x4102x128_000_600_000 h_S_) slices_S8x4102x128_S8x4096x128_0_0_0)) (extractStridedSlice S8x4096x128 ![0, 0, 0] (pad S8x4103x128 ![0, 7, 0] ![0, 0, 0] ![0, 0, 0] X (sitofp .f32 (constantI S_ 32 0#32)) pads_S8x4096x128_S8x4103x128_000_700_000 h_S_) slices_S8x4103x128_S8x4096x128_0_0_0)) (extractStridedSlice S8x4096x128 ![0, 0, 0] (pad S8x4104x128 ![0, 8, 0] ![0, 0, 0] ![0, 0, 0] X (sitofp .f32 (constantI S_ 32 0#32)) pads_S8x4096x128_S8x4104x128_000_800_000 h_S_) slices_S8x4104x128_S8x4096x128_0_0_0)) (extractStridedSlice S8x4096x128 ![0, 0, 0] (pad S8x4105x128 ![0, 9, 0] ![0, 0, 0] ![0, 0, 0] X (sitofp .f32 (constantI S_ 32 0#32)) pads_S8x4096x128_S8x4105x128_000_900_000 h_S_) slices_S8x4105x128_S8x4096x128_0_0_0)) (extractStridedSlice S8x4096x128 ![0, 0, 0] (pad S8x4106x128 ![0, 10, 0] ![0, 0, 0] ![0, 0, 0] X (sitofp .f32 (constantI S_ 32 0#32)) pads_S8x4096x128_S8x4106x128_000_1000_000 h_S_) slices_S8x4106x128_S8x4096x128_0_0_0)) (extractStridedSlice S8x4096x128 ![0, 0, 0] (pad S8x4107x128 ![0, 11, 0] ![0, 0, 0] ![0, 0, 0] X (sitofp .f32 (constantI S_ 32 0#32)) pads_S8x4096x128_S8x4107x128_000_1100_000 h_S_) slices_S8x4107x128_S8x4096x128_0_0_0)) (extractStridedSlice S8x4096x128 ![0, 0, 0] (pad S8x4108x128 ![0, 12, 0] ![0, 0, 0] ![0, 0, 0] X (sitofp .f32 (constantI S_ 32 0#32)) pads_S8x4096x128_S8x4108x128_000_1200_000 h_S_) slices_S8x4108x128_S8x4096x128_0_0_0)) (extractStridedSlice S8x4096x128 ![0, 0, 0] (pad S8x4109x128 ![0, 13, 0] ![0, 0, 0] ![0, 0, 0] X (sitofp .f32 (constantI S_ 32 0#32)) pads_S8x4096x128_S8x4109x128_000_1300_000 h_S_) slices_S8x4109x128_S8x4096x128_0_0_0)) (extractStridedSlice S8x4096x128 ![0, 0, 0] (pad S8x4110x128 ![0, 14, 0] ![0, 0, 0] ![0, 0, 0] X (sitofp .f32 (constantI S_ 32 0#32)) pads_S8x4096x128_S8x4110x128_000_1400_000 h_S_) slices_S8x4110x128_S8x4096x128_0_0_0)) (extractStridedSlice S8x4096x128 ![0, 0, 0] (pad S8x4111x128 ![0, 15, 0] ![0, 0, 0] ![0, 0, 0] X (sitofp .f32 (constantI S_ 32 0#32)) pads_S8x4096x128_S8x4111x128_000_1500_000 h_S_) slices_S8x4111x128_S8x4096x128_0_0_0))

/-- The number of tokens in that window. -/
def count3 : FVec Ideal S8x4096x128 .f32 :=
  (broadcastInDim S8x4096x128 ![0, 1, 2] bcast_S1x4096x1_S8x4096x128_0_1_2 (broadcastInDim S1x4096x1 ![1] bcast_S4096_S1x4096x1_1 (sitofp .f32 (subi (addi (iotaInDim S4096 32 0) (broadcastInDim S4096 ![] bcast_S_S4096 (constantI S_ 32 1#32))) (maxsi (subi (addi (iotaInDim S4096 32 0) (broadcastInDim S4096 ![] bcast_S_S4096 (constantI S_ 32 1#32))) (broadcastInDim S4096 ![] bcast_S_S4096 (constantI S_ 32 16#32))) (broadcastInDim S4096 ![] bcast_S_S4096 (constantI S_ 32 0#32)))))))

/-- The group's columns. -/
def group3 (U : FVec Ideal S8x4096x512 .f32) : FVec Ideal S8x4096x128 .f32 :=
  extractStridedSlice S8x4096x128 ![0, 0, 384] U slices_S8x4096x512_S8x4096x128_0_0_384

/-- The window's mean less the token, through the group's weight. -/
def pooled3 (U : FVec Ideal S8x4096x512 .f32) (W : FVec Ideal S4x128x128 .f32) : FVec Ideal S8x4096x128 .f32 :=
  Host.dotGeneral dot_S8x4096x128_S128x128_S8x4096x128_2_0_01_1_n_n none (subf (Host.divf (window3 (group3 U)) count3) (group3 U))
    (shapeCast _ (extractStridedSlice S1x128x128 ![3, 0, 0] W slices_S4x128x128_S1x128x128_3_0_0) shapeCasts_S1x128x128_S128x128)

end

section
open Cert.Kernel3Ideal Cert.Kernel3Ideal.Gen

variable (m : (ℓ : Loc nD τ sig) → Buf (Elt Ideal) ℓ)

/-- Where each window's block sits at a grid point. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![t.val / 8, t.val % 8 * 32 - 1, 0] ∧ win0_5.index t = ![t.val / 8, t.val % 8, 0]
    ∧ win0_6.index t = ![0, 0, 0] ∧ win0_7.index t = ![0, 0] ∧ win0_8.index t = ![0, 0] ∧ win0_9.index t = ![0, 0]
    ∧ win0_10.index t = ![0, 0] ∧ win0_11.index t = ![0, 0] ∧ win0_12.index t = ![t.val / 8, t.val % 8, 0]
    ∧ (grid0.coords t 1).val = t.val % 8 :=
  (by decide +kernel : ∀ t : Fin grid0.N, _)

/-- The tokens before the block's first: none before the array's first. -/
theorem halo_at (i : grid0.Coords) (v : Vec Ideal S1x16x512 .f32) (y) :
    k0_pay4 (F := Ideal) i v y = if (i 1).val = 0 then 0 else v (ix3 0 (y 0) (y 1)) := by
  have hi : (i 1).val < 8 := (i 1).isLt
  pointwise [k0_pay4]
  by_cases h : (i 1).val = 0
  · simp [h, Scalar.select, Scalar.cmpi, IntOp.cmpi]
  · have : BitVec.ofNat 32 (i 1).val ≠ 0#32 := fun e => h (by have := congrArg BitVec.toNat e; simp only [BitVec.toNat_ofNat] at this; omega)
    have e : (BitVec.ofNat 32 (i 1).val == 0#32) = false := beq_eq_false_iff_ne.mpr this
    simp [h, e, Scalar.select, Scalar.cmpi, IntOp.cmpi]

/-- A whole number read as a float. -/
theorem zero_at : (FloatOps.sitofp (F := Ideal) FTy.f32 (0#32 : BitVec 32)) = (0 : EReal) := by
  show (((0#32 : BitVec 32).toInt : ℝ) : EReal) = 0
  simp

/-- The number of tokens in a window of 2, counted either way. -/
theorem words2 : ∀ (a : Fin 8) (b : Fin 512), IntOp.subi (IntOp.addi (BitVec.ofNat 32 (a.val * 512 + b.val)) 1#32) (IntOp.maxsi (IntOp.subi (IntOp.addi (BitVec.ofNat 32 (a.val * 512 + b.val)) 1#32) 2#32) 0#32)
    = IntOp.minsi (IntOp.addi (IntOp.addi (Scalar.muli (BitVec.ofNat 32 a.val) 512#32) (BitVec.ofNat 32 b.val)) 1#32) 2#32 := by decide +kernel

/-- The number of tokens in a window of 4, counted either way. -/
theorem words4 : ∀ (a : Fin 8) (b : Fin 512), IntOp.subi (IntOp.addi (BitVec.ofNat 32 (a.val * 512 + b.val)) 1#32) (IntOp.maxsi (IntOp.subi (IntOp.addi (BitVec.ofNat 32 (a.val * 512 + b.val)) 1#32) 4#32) 0#32)
    = IntOp.minsi (IntOp.addi (IntOp.addi (Scalar.muli (BitVec.ofNat 32 a.val) 512#32) (BitVec.ofNat 32 b.val)) 1#32) 4#32 := by decide +kernel

/-- The number of tokens in a window of 8, counted either way. -/
theorem words8 : ∀ (a : Fin 8) (b : Fin 512), IntOp.subi (IntOp.addi (BitVec.ofNat 32 (a.val * 512 + b.val)) 1#32) (IntOp.maxsi (IntOp.subi (IntOp.addi (BitVec.ofNat 32 (a.val * 512 + b.val)) 1#32) 8#32) 0#32)
    = IntOp.minsi (IntOp.addi (IntOp.addi (Scalar.muli (BitVec.ofNat 32 a.val) 512#32) (BitVec.ofNat 32 b.val)) 1#32) 8#32 := by decide +kernel

/-- The number of tokens in a window of 16, counted either way. -/
theorem words16 : ∀ (a : Fin 8) (b : Fin 512), IntOp.subi (IntOp.addi (BitVec.ofNat 32 (a.val * 512 + b.val)) 1#32) (IntOp.maxsi (IntOp.subi (IntOp.addi (BitVec.ofNat 32 (a.val * 512 + b.val)) 1#32) 16#32) 0#32)
    = IntOp.minsi (IntOp.addi (IntOp.addi (Scalar.muli (BitVec.ofNat 32 a.val) 512#32) (BitVec.ofNat 32 b.val)) 1#32) 16#32 := by decide +kernel

theorem add_eq {a b c d : EReal} (h : a = c) (k : b = d) : a + b = c + d := by rw [h, k]
theorem sub_eq {a b c d : EReal} (h : a = c) (k : b = d) : a - b = c - d := by rw [h, k]
theorem mul_eq {a b c d : EReal} (h : a = c) (k : b = d) : a * b = c * d := by rw [h, k]
theorem div_eq {a b c d : EReal} (h : a = c) (k : b = d) : Ideal.div a b = Ideal.div c d := by rw [h, k]

/-- The last group's window, its mean less the token, through the group's weight. -/
def last (v3 : IVec S512x128 32) (v74 v89 : FVec Ideal S512x128 .f32) (v98 : Vec Ideal S1x128x128 .bf16) : FVec Ideal S512x128 .f32 :=
  matmul dot_S512x128_S128x128_S512x128_1_0_0_1_n_n none
    (truncf .bf16 (subf (divf v89 (sitofp .f32 (minsi (addi v3 (broadcast S512x128 1#32)) (broadcast S512x128 16#32)))) v74) bitsLt_bf16_f32)
    (shapeCast S128x128 v98 shapeCasts_S1x128x128_S128x128 : FVec Ideal S128x128 .bf16) (constant S512x128 .f32 0x00000000#32)

set_option maxHeartbeats 4000000 in
/-- Group 0's columns of the pooling branch. -/
theorem pool0 (c : Dev nD) (t : Fin cfg0.N) (y : S512x128.Idx) (j : Cert.Reference3Ideal.S8x4096x128.Idx)
    (h0 : (j 0 : ℕ) = t.val / 8) (h1 : (j 1 : ℕ) = t.val % 8 * 512 + y 0) (h2 : (j 2 : ℕ) = y 1) :
    k0_pay5 (F := Ideal) (grid0.coords t) (iblk m c 3 t) (iblk m c 4 t) (View.ld (iblk m c 6 t) r0_2) y
    = pooled0 (m ((c : Thread nD τ).loc main_arg3)) (m ((c : Thread nD τ).loc main_arg5)) j := by
  have hc : (grid0.coords t 1).val = t.val % 8 := (idx t).2.2.2.2.2.2.2.2.2.2.2.2.2
  have hw := words2 ⟨t.val % 8, by omega⟩ (y 0)
  rw [← h1] at hw
  pointwise [last, k0_pay5, k0_pay9, k0_pay10, k0_pay6, k0_pay7, k0_pay8, k0_pay11, k0_pay12, k0_pay2, k0_pay3, halo_at, pooled0, window0, count0, group0]
  simp only [hc, hw, zero_at, ← add_assoc (G := EReal)]
  have hy : (y 0 : ℕ) < 512 := (y 0).isLt
  refine Finset.sum_congr rfl fun x _ => mul_eq (sub_eq (div_eq (add_eq ?_ ?_) rfl) ?_) ?_
  · rw [dif_neg (by omega)]
    generalize_proofs
    blk_ext [iblk, V, idx t]
  · split <;> (try split) <;> (try split) <;> first | (exfalso; omega) | (with_reducible rfl) | (generalize_proofs; blk_ext [iblk, V, idx t])
  · generalize_proofs
    blk_ext [iblk, V, idx t]
  · generalize_proofs
    blk_ext [iblk, V, idx t]

set_option maxHeartbeats 4000000 in
/-- Group 1's columns of the pooling branch. -/
theorem pool1 (c : Dev nD) (t : Fin cfg0.N) (y : S512x128.Idx) (j : Cert.Reference3Ideal.S8x4096x128.Idx)
    (h0 : (j 0 : ℕ) = t.val / 8) (h1 : (j 1 : ℕ) = t.val % 8 * 512 + y 0) (h2 : (j 2 : ℕ) = y 1) :
    k0_pay9 (F := Ideal) (k0_pay6 (iblk m c 3 t)) (k0_pay7 (grid0.coords t) (iblk m c 3 t) (iblk m c 4 t)) (k0_pay8 (grid0.coords t)) 4#32 (View.ld (iblk m c 6 t) r0_3) y
    = pooled1 (m ((c : Thread nD τ).loc main_arg3)) (m ((c : Thread nD τ).loc main_arg5)) j := by
  have hc : (grid0.coords t 1).val = t.val % 8 := (idx t).2.2.2.2.2.2.2.2.2.2.2.2.2
  have hw := words4 ⟨t.val % 8, by omega⟩ (y 0)
  rw [← h1] at hw
  pointwise [last, k0_pay5, k0_pay9, k0_pay10, k0_pay6, k0_pay7, k0_pay8, k0_pay11, k0_pay12, k0_pay2, k0_pay3, halo_at, pooled1, window1, count1, group1]
  simp only [hc, hw, zero_at, ← add_assoc (G := EReal)]
  have hy : (y 0 : ℕ) < 512 := (y 0).isLt
  refine Finset.sum_congr rfl fun x _ => mul_eq (sub_eq (div_eq (add_eq (add_eq (add_eq ?_ ?_) ?_) ?_) rfl) ?_) ?_
  · rw [dif_neg (by omega)]
    generalize_proofs
    blk_ext [iblk, V, idx t]
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · generalize_proofs
    blk_ext [iblk, V, idx t]
  · generalize_proofs
    blk_ext [iblk, V, idx t]

set_option maxHeartbeats 4000000 in
/-- Group 2's columns of the pooling branch. -/
theorem pool2 (c : Dev nD) (t : Fin cfg0.N) (y : S512x128.Idx) (j : Cert.Reference3Ideal.S8x4096x128.Idx)
    (h0 : (j 0 : ℕ) = t.val / 8) (h1 : (j 1 : ℕ) = t.val % 8 * 512 + y 0) (h2 : (j 2 : ℕ) = y 1) :
    k0_pay10 (F := Ideal) (k0_pay2 (grid0.coords t)) (k0_pay3 (iblk m c 3 t)) (k0_pay4 (grid0.coords t) (iblk m c 4 t)) (View.ld (iblk m c 6 t) r0_4) y
    = pooled2 (m ((c : Thread nD τ).loc main_arg3)) (m ((c : Thread nD τ).loc main_arg5)) j := by
  have hc : (grid0.coords t 1).val = t.val % 8 := (idx t).2.2.2.2.2.2.2.2.2.2.2.2.2
  have hw := words8 ⟨t.val % 8, by omega⟩ (y 0)
  rw [← h1] at hw
  pointwise [last, k0_pay5, k0_pay9, k0_pay10, k0_pay6, k0_pay7, k0_pay8, k0_pay11, k0_pay12, k0_pay2, k0_pay3, halo_at, pooled2, window2, count2, group2]
  simp only [hc, hw, zero_at, ← add_assoc (G := EReal)]
  have hy : (y 0 : ℕ) < 512 := (y 0).isLt
  refine Finset.sum_congr rfl fun x _ => mul_eq (sub_eq (div_eq (add_eq (add_eq (add_eq (add_eq (add_eq (add_eq (add_eq ?_ ?_) ?_) ?_) ?_) ?_) ?_) ?_) rfl) ?_) ?_
  · rw [dif_neg (by omega)]
    generalize_proofs
    blk_ext [iblk, V, idx t]
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · generalize_proofs
    blk_ext [iblk, V, idx t]
  · generalize_proofs
    blk_ext [iblk, V, idx t]

set_option maxHeartbeats 4000000 in
/-- Group 3's columns of the pooling branch. -/
theorem pool3 (c : Dev nD) (t : Fin cfg0.N) (y : S512x128.Idx) (j : Cert.Reference3Ideal.S8x4096x128.Idx)
    (h0 : (j 0 : ℕ) = t.val / 8) (h1 : (j 1 : ℕ) = t.val % 8 * 512 + y 0) (h2 : (j 2 : ℕ) = y 1) :
    last (k0_pay2 (grid0.coords t)) (k0_pay11 (k0_pay3 (iblk m c 3 t))) (k0_pay12 (k0_pay3 (iblk m c 3 t)) (k0_pay4 (grid0.coords t) (iblk m c 4 t))) (View.ld (iblk m c 6 t) r0_5) y
    = pooled3 (m ((c : Thread nD τ).loc main_arg3)) (m ((c : Thread nD τ).loc main_arg5)) j := by
  have hc : (grid0.coords t 1).val = t.val % 8 := (idx t).2.2.2.2.2.2.2.2.2.2.2.2.2
  have hw := words16 ⟨t.val % 8, by omega⟩ (y 0)
  rw [← h1] at hw
  pointwise [last, k0_pay5, k0_pay9, k0_pay10, k0_pay6, k0_pay7, k0_pay8, k0_pay11, k0_pay12, k0_pay2, k0_pay3, halo_at, pooled3, window3, count3, group3]
  simp only [hc, hw, zero_at, ← add_assoc (G := EReal)]
  have hy : (y 0 : ℕ) < 512 := (y 0).isLt
  refine Finset.sum_congr rfl fun x _ => mul_eq (sub_eq (div_eq (add_eq (add_eq (add_eq (add_eq (add_eq (add_eq (add_eq (add_eq (add_eq (add_eq (add_eq (add_eq (add_eq (add_eq (add_eq ?_ ?_) ?_) ?_) ?_) ?_) ?_) ?_) ?_) ?_) ?_) ?_) ?_) ?_) ?_) ?_) rfl) ?_) ?_
  · rw [dif_neg (by omega)]
    generalize_proofs
    blk_ext [iblk, V, idx t]
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · split <;> (try split) <;> (try split) <;> first | (exfalso; omega) | (with_reducible rfl) | (generalize_proofs; blk_ext [iblk, V, idx t])
  · generalize_proofs
    blk_ext [iblk, V, idx t]
  · generalize_proofs
    blk_ext [iblk, V, idx t]

end

end Cert.Proof.Merge

end
-- ==== Proof.Merge.lean ====
/-
  What the merge call leaves in its result: the three branches' projections, each under its gate, projected once more and added
  to the rows.
-/
module

public import proofs.«01_k».proof.Proof.Pool

@[expose] public section

set_option maxRecDepth 16384

noncomputable section

namespace Cert.Proof.Merge

open Idealize.ShloMosaic Idealize.ShloMosaic.TcCoe Idealize.SL.Sem
open Idealize.ShloMosaic.Pipeline (Dat)

section
open Cert.Reference3Ideal Cert.Reference3Ideal.Gen

/-- The pooling branch, its four groups side by side. -/
def branch (U : FVec Ideal S8x4096x512 .f32) (W : FVec Ideal S4x128x128 .f32) : FVec Ideal S8x4096x512 .f32 :=
  concatenate S8x4096x512 2 [⟨S8x4096x128, pooled0 U W⟩, ⟨S8x4096x128, pooled1 U W⟩, ⟨S8x4096x128, pooled2 U W⟩, ⟨S8x4096x128, pooled3 U W⟩]
    concatenates_S8x4096x128_S8x4096x128_S8x4096x128_S8x4096x128_S8x4096x512_d2

/-- The gates, between nothing and one. -/
def gates (M : FVec Ideal S8x4096x3072 .bf16) : FVec Ideal S8x4096x3072 .f32 :=
  Host.divf (broadcastInDim S8x4096x3072 ![] bcast_S_S8x4096x3072 (constant S_ .f32 0x3F800000#32))
    (addf (broadcastInDim S8x4096x3072 ![] bcast_S_S8x4096x3072 (constant S_ .f32 0x3F800000#32)) (Host.exp (Host.negf (extf .f32 M bitsLt_bf16_f32))))

/-- The plain formula's result, of the arrays. -/
def plain (X : FVec Ideal S8x4096x1024 .f32) (A C : FVec Ideal S8x4096x512 .bf16) (U : FVec Ideal S8x4096x512 .f32) (M : FVec Ideal S8x4096x3072 .bf16)
    (W : FVec Ideal S4x128x128 .f32) (S : FVec Ideal S512 .f32) (Pa Pb Pc : FVec Ideal S512x1024 .f32) (Wo : FVec Ideal S1024x1024 .f32) :
    FVec Ideal S8x4096x1024 .f32 :=
  addf X (Host.dotGeneral dot_S8x4096x1024_S1024x1024_S8x4096x1024_2_0_01_1_n_n none
    (addf (addf
      (mulf (extractStridedSlice S8x4096x1024 ![0, 0, 0] (gates M) slices_S8x4096x3072_S8x4096x1024_0_0_0) (Host.dotGeneral dot_S8x4096x512_S512x1024_S8x4096x1024_2_0_01_1_n_n none (extf .f32 A bitsLt_bf16_f32) Pa))
      (mulf (extractStridedSlice S8x4096x1024 ![0, 0, 1024] (gates M) slices_S8x4096x3072_S8x4096x1024_0_0_1024) (Host.dotGeneral dot_S8x4096x512_S512x1024_S8x4096x1024_2_0_01_1_n_n none (mulf (branch U W) (broadcastInDim S8x4096x512 ![0, 1, 2] bcast_S1x1x512_S8x4096x512_0_1_2 (broadcastInDim S1x1x512 ![2] bcast_S512_S1x1x512_2 S))) Pb)))
      (mulf (extractStridedSlice S8x4096x1024 ![0, 0, 2048] (gates M) slices_S8x4096x3072_S8x4096x1024_0_0_2048) (Host.dotGeneral dot_S8x4096x512_S512x1024_S8x4096x1024_2_0_01_1_n_n none (extf .f32 C bitsLt_bf16_f32) Pc))) Wo)

end

section
open Cert.Kernel3Ideal Cert.Kernel3Ideal.Gen

variable (m : (ℓ : Loc nD τ sig) → Buf (Elt Ideal) ℓ)

/-- The pooling branch of a block: its four groups side by side. -/
def side (c : Dev nD) (t : Fin cfg0.N) : FVec Ideal S512x512 .f32 :=
  concatenate S512x512 1 [⟨S512x128, k0_pay5 (F := Ideal) (grid0.coords t) (iblk m c 3 t) (iblk m c 4 t) (View.ld (iblk m c 6 t) r0_2)⟩, ⟨S512x128, k0_pay9 (F := Ideal) (k0_pay6 (iblk m c 3 t)) (k0_pay7 (grid0.coords t) (iblk m c 3 t) (iblk m c 4 t)) (k0_pay8 (grid0.coords t)) 4#32 (View.ld (iblk m c 6 t) r0_3)⟩,
    ⟨S512x128, k0_pay10 (F := Ideal) (k0_pay2 (grid0.coords t)) (k0_pay3 (iblk m c 3 t)) (k0_pay4 (grid0.coords t) (iblk m c 4 t)) (View.ld (iblk m c 6 t) r0_4)⟩, ⟨S512x128, last (k0_pay2 (grid0.coords t)) (k0_pay11 (k0_pay3 (iblk m c 3 t))) (k0_pay12 (k0_pay3 (iblk m c 3 t)) (k0_pay4 (grid0.coords t) (iblk m c 4 t))) (View.ld (iblk m c 6 t) r0_5)⟩]
    concatenates_S512x128_S512x128_S512x128_S512x128_S512x512_d1

theorem side_at (c : Dev nD) (t : Fin cfg0.N) (y : S512x512.Idx) (j : Cert.Reference3Ideal.S8x4096x512.Idx)
    (h0 : (j 0 : ℕ) = t.val / 8) (h1 : (j 1 : ℕ) = t.val % 8 * 512 + y 0) (h2 : (j 2 : ℕ) = y 1) :
    side m c t y = branch (m ((c : Thread nD τ).loc main_arg3)) (m ((c : Thread nD τ).loc main_arg5)) j := by
  have hy : (y 1 : ℕ) < 512 := (y 1).isLt
  pointwise [side, branch]
  by_cases a0 : (y 1 : ℕ) < 128
  · rw [dif_pos a0, dif_pos (show (j 2 : ℕ) < 128 by omega)]
    exact pool0 m c t _ _ h0 h1 h2
  rw [dif_neg a0, dif_neg (show ¬(j 2 : ℕ) < 128 by omega)]
  by_cases a1 : (y 1 : ℕ) - 128 < 128
  · rw [dif_pos a1, dif_pos (show (j 2 : ℕ) - 128 < 128 by omega)]
    exact pool1 m c t _ _ h0 h1 (congrArg (· - 128) h2)
  rw [dif_neg a1, dif_neg (show ¬(j 2 : ℕ) - 128 < 128 by omega)]
  by_cases a2 : (y 1 : ℕ) - 128 - 128 < 128
  · rw [dif_pos a2, dif_pos (show (j 2 : ℕ) - 128 - 128 < 128 by omega)]
    exact pool2 m c t _ _ h0 h1 (congrArg (· - 128 - 128) h2)
  rw [dif_neg a2, dif_neg (show ¬(j 2 : ℕ) - 128 - 128 < 128 by omega)]
  exact pool3 m c t _ _ h0 h1 (congrArg (· - 128 - 128 - 128) h2)

/-- The three branches under their gates, the third's product left out. -/
def gated (v101 : FVec Ideal S512x512 .f32) (v102 : Vec Ideal S1x512 .f32) (v106 : Vec Ideal S1x512x3072 .bf16) (v111 : Vec Ideal S1x512x512 .bf16)
    (v113 v120 : Vec Ideal S512x1024 .bf16) : FVec Ideal S512x1024 .f32 :=
  addf (mulf (logistic (extractStridedSlice S512x1024 ![0, 0] (k0_pay13 v106) slices_S512x3072_o0_0_S512x1024))
      (matmul dot_S512x512_S512x1024_S512x1024_1_0_0_1_n_n none (shapeCast S512x512 v111 shapeCasts_S1x512x512_S512x512 : FVec Ideal S512x512 .bf16)
        (shapeCast S512x1024 v113 shapeCasts_S512x1024_S512x1024 : FVec Ideal S512x1024 .bf16) (constant S512x1024 .f32 0x00000000#32)))
    (mulf (logistic (extractStridedSlice S512x1024 ![0, 1024] (k0_pay13 v106) slices_S512x3072_o0_1024_S512x1024))
      (matmul dot_S512x512_S512x1024_S512x1024_1_0_0_1_n_n none
        (truncf .bf16 (mulf v101 (broadcastTo S512x512 (shapeCast S1x512 v102 shapeCasts_S1x512_S1x512) broadcasts_S1x512_S512x512)) bitsLt_bf16_f32)
        (shapeCast S512x1024 v120 shapeCasts_S512x1024_S512x1024 : FVec Ideal S512x1024 .bf16) (constant S512x1024 .f32 0x00000000#32)))

theorem pay14_eq (v3 : IVec S512x128 32) (v28 v49 v73 v74 v89 : FVec Ideal S512x128 .f32) (v98 : Vec Ideal S1x128x128 .bf16) (v102 : Vec Ideal S1x512 .f32)
    (v106 : Vec Ideal S1x512x3072 .bf16) (v111 : Vec Ideal S1x512x512 .bf16) (v113 v120 : Vec Ideal S512x1024 .bf16) :
    k0_pay14 v3 v28 v49 v73 v74 v89 1#32 v98 v102 v106 v111 v113 v120
    = gated (concatenate S512x512 1 [⟨S512x128, v28⟩, ⟨S512x128, v49⟩, ⟨S512x128, v73⟩, ⟨S512x128, last v3 v74 v89 v98⟩]
        concatenates_S512x128_S512x128_S512x128_S512x128_S512x512_d1) v102 v106 v111 v113 v120 := by
  unfold k0_pay14 gated last
  rfl

/-- A stored element is the plain formula's at the place the block puts it. -/
theorem point (c : Dev nD) (t : Fin cfg0.N) (y) :
    k0_pay1 (gated (side m c t) (iblk m c 7 t) (iblk m c 5 t) (iblk m c 1 t) (iblk m c 8 t) (iblk m c 9 t)) (k0_pay15 (iblk m c 5 t))
      (iblk m c 2 t) (iblk m c 10 t) (iblk m c 0 t) (iblk m c 11 t) y
    = plain (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (((cfg0.win 12).blk t).view.emb y) := by
  have hs := side_at m c t
  generalize side m c t = K at hs ⊢
  unfold plain
  generalize branch (m ((c : Thread nD τ).loc main_arg3)) (m ((c : Thread nD τ).loc main_arg5)) = R at hs ⊢
  pointwise [k0_pay1, gated, k0_pay13, k0_pay15, gates]
  simp only [Ideal.logistic]
  blk_point [iblk, V, idx t]
  refine hs _ _ ?_ ?_ ?_ <;> blk_simp [idx t] <;> omega

/-- The result array after the run. -/
theorem final (c : Dev nD) : (dats m 0 c).arrAt 12 cfg0.N
    = plain (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 12 _ (by decide +kernel) fun t _ y => ?_
  blk_simp
  rw [after0_12]
  frame_out
  unfold k0_pay16 k0_pay17 k0_pay18
  frame_out
  rw [pay14_eq]
  exact point m c t y

end

end Cert.Proof.Merge

end
-- ==== Proof.InputRef.lean ====
/-
  The input call's plain formula, in parts: the projection of the normalised rows, the partial rotary embedding at each head count,
  the shared key and value, and the value rows with their column of ones.
-/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Proof.Input

open Idealize.ShloMosaic Idealize.ShloMosaic.TcCoe Idealize.SL.Sem
open Idealize.ShloMosaic.Pipeline (Dat)

section
open Cert.Reference4Ideal Cert.Reference4Ideal.Gen

/-- The projection of the normalised rows. -/
def proj (X : FVec Ideal S8x4096x1024 .f32) (G : FVec Ideal S1024 .f32) (W : FVec Ideal S1024x5852 .f32) : FVec Ideal S8x4096x5852 .f32 :=
  Host.dotGeneral dot_S8x4096x1024_S1024x5852_S8x4096x5852_2_0_01_1_n_n none (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))) W

/-- The shared keys and values, from the normalised compressed columns. -/
def keyval (Y : FVec Ideal S8x4096x5852 .f32) (K : FVec Ideal S128 .f32) (U : FVec Ideal S128x128 .f32) : FVec Ideal S8x4096x128 .f32 :=
  Host.dotGeneral dot_S8x4096x128_S128x128_S8x4096x128_2_0_01_1_n_n none (mulf (mulf (extractStridedSlice S8x4096x128 ![0, 0, 512] Y slices_S8x4096x5852_S8x4096x128_0_0_512) (broadcastInDim S8x4096x128 ![0, 1, 2] bcast_S8x4096x1_S8x4096x128_0_1_2 (Host.rsqrt (addf (Host.divf (broadcastInDim S8x4096x1 ![0, 1] bcast_S8x4096_S8x4096x1_0_1 (Host.reduceAdd (mulf (extractStridedSlice S8x4096x128 ![0, 0, 512] Y slices_S8x4096x5852_S8x4096x128_0_0_512) (extractStridedSlice S8x4096x128 ![0, 0, 512] Y slices_S8x4096x5852_S8x4096x128_0_0_512)) (constant S_ .f32 0x00000000#32) reducesTo_S8x4096x128_S8x4096_d2 h_S_)) (broadcastInDim S8x4096x1 ![] bcast_S_S8x4096x1 (constant S_ .f32 0x43000000#32))) (broadcastInDim S8x4096x1 ![] bcast_S_S8x4096x1 (constant S_ .f32 0x358637BD#32)))))) (broadcastInDim S8x4096x128 ![0, 1, 2] bcast_S1x1x128_S8x4096x128_0_1_2 (broadcastInDim S1x1x128 ![2] bcast_S128_S1x1x128_2 K))) U

/-- The partial rotary embedding of 8 heads. -/
def rope8 (Z : FVec Ideal S8x4096x8x64 .f32) (C S : FVec Ideal S8x4096x8 .f32) : FVec Ideal S8x4096x8x64 .f32 :=
  concatenate S8x4096x8x64 3 [⟨S8x4096x8x8, subf (mulf (extractStridedSlice S8x4096x8x8 ![0, 0, 0, 0] Z slices_S8x4096x8x64_S8x4096x8x8_0_0_0_0) (broadcastInDim S8x4096x8x8 ![0, 1, 2, 3] bcast_S8x4096x1x8_S8x4096x8x8_0_1_2_3 (shapeCast _ C shapeCasts_S8x4096x8_S8x4096x1x8))) (mulf (extractStridedSlice S8x4096x8x8 ![0, 0, 0, 8] Z slices_S8x4096x8x64_S8x4096x8x8_0_0_0_8) (broadcastInDim S8x4096x8x8 ![0, 1, 2, 3] bcast_S8x4096x1x8_S8x4096x8x8_0_1_2_3 (shapeCast _ S shapeCasts_S8x4096x8_S8x4096x1x8)))⟩,
    ⟨S8x4096x8x8, addf (mulf (extractStridedSlice S8x4096x8x8 ![0, 0, 0, 8] Z slices_S8x4096x8x64_S8x4096x8x8_0_0_0_8) (broadcastInDim S8x4096x8x8 ![0, 1, 2, 3] bcast_S8x4096x1x8_S8x4096x8x8_0_1_2_3 (shapeCast _ C shapeCasts_S8x4096x8_S8x4096x1x8))) (mulf (extractStridedSlice S8x4096x8x8 ![0, 0, 0, 0] Z slices_S8x4096x8x64_S8x4096x8x8_0_0_0_0) (broadcastInDim S8x4096x8x8 ![0, 1, 2, 3] bcast_S8x4096x1x8_S8x4096x8x8_0_1_2_3 (shapeCast _ S shapeCasts_S8x4096x8_S8x4096x1x8)))⟩,
    ⟨S8x4096x8x48, extractStridedSlice S8x4096x8x48 ![0, 0, 0, 16] Z slices_S8x4096x8x64_S8x4096x8x48_0_0_0_16⟩] concatenates_S8x4096x8x8_S8x4096x8x8_S8x4096x8x48_S8x4096x8x64_d3

/-- 8 heads of the projection's columns, embedded. -/
def heads8 (Z : FVec Ideal S8x4096x512 .f32) (C S : FVec Ideal S8x4096x8 .f32) : FVec Ideal S8x8x4096x64 .f32 :=
  transpose S8x8x4096x64 [0, 2, 1, 3] (rope8 (shapeCast _ Z shapeCasts_S8x4096x512_S8x4096x8x64) C S) transposes_S8x4096x8x64_S8x8x4096x64_0_2_1_3

/-- The partial rotary embedding of 4 heads. -/
def rope4 (Z : FVec Ideal S8x4096x4x64 .f32) (C S : FVec Ideal S8x4096x8 .f32) : FVec Ideal S8x4096x4x64 .f32 :=
  concatenate S8x4096x4x64 3 [⟨S8x4096x4x8, subf (mulf (extractStridedSlice S8x4096x4x8 ![0, 0, 0, 0] Z slices_S8x4096x4x64_S8x4096x4x8_0_0_0_0) (broadcastInDim S8x4096x4x8 ![0, 1, 2, 3] bcast_S8x4096x1x8_S8x4096x4x8_0_1_2_3 (shapeCast _ C shapeCasts_S8x4096x8_S8x4096x1x8))) (mulf (extractStridedSlice S8x4096x4x8 ![0, 0, 0, 8] Z slices_S8x4096x4x64_S8x4096x4x8_0_0_0_8) (broadcastInDim S8x4096x4x8 ![0, 1, 2, 3] bcast_S8x4096x1x8_S8x4096x4x8_0_1_2_3 (shapeCast _ S shapeCasts_S8x4096x8_S8x4096x1x8)))⟩,
    ⟨S8x4096x4x8, addf (mulf (extractStridedSlice S8x4096x4x8 ![0, 0, 0, 8] Z slices_S8x4096x4x64_S8x4096x4x8_0_0_0_8) (broadcastInDim S8x4096x4x8 ![0, 1, 2, 3] bcast_S8x4096x1x8_S8x4096x4x8_0_1_2_3 (shapeCast _ C shapeCasts_S8x4096x8_S8x4096x1x8))) (mulf (extractStridedSlice S8x4096x4x8 ![0, 0, 0, 0] Z slices_S8x4096x4x64_S8x4096x4x8_0_0_0_0) (broadcastInDim S8x4096x4x8 ![0, 1, 2, 3] bcast_S8x4096x1x8_S8x4096x4x8_0_1_2_3 (shapeCast _ S shapeCasts_S8x4096x8_S8x4096x1x8)))⟩,
    ⟨S8x4096x4x48, extractStridedSlice S8x4096x4x48 ![0, 0, 0, 16] Z slices_S8x4096x4x64_S8x4096x4x48_0_0_0_16⟩] concatenates_S8x4096x4x8_S8x4096x4x8_S8x4096x4x48_S8x4096x4x64_d3

/-- 4 heads of the projection's columns, embedded. -/
def heads4 (Z : FVec Ideal S8x4096x256 .f32) (C S : FVec Ideal S8x4096x8 .f32) : FVec Ideal S8x4x4096x64 .f32 :=
  transpose S8x4x4096x64 [0, 2, 1, 3] (rope4 (shapeCast _ Z shapeCasts_S8x4096x256_S8x4096x4x64) C S) transposes_S8x4096x4x64_S8x4x4096x64_0_2_1_3

/-- The partial rotary embedding of 2 heads. -/
def rope2 (Z : FVec Ideal S8x4096x2x64 .f32) (C S : FVec Ideal S8x4096x8 .f32) : FVec Ideal S8x4096x2x64 .f32 :=
  concatenate S8x4096x2x64 3 [⟨S8x4096x2x8, subf (mulf (extractStridedSlice S8x4096x2x8 ![0, 0, 0, 0] Z slices_S8x4096x2x64_S8x4096x2x8_0_0_0_0) (broadcastInDim S8x4096x2x8 ![0, 1, 2, 3] bcast_S8x4096x1x8_S8x4096x2x8_0_1_2_3 (shapeCast _ C shapeCasts_S8x4096x8_S8x4096x1x8))) (mulf (extractStridedSlice S8x4096x2x8 ![0, 0, 0, 8] Z slices_S8x4096x2x64_S8x4096x2x8_0_0_0_8) (broadcastInDim S8x4096x2x8 ![0, 1, 2, 3] bcast_S8x4096x1x8_S8x4096x2x8_0_1_2_3 (shapeCast _ S shapeCasts_S8x4096x8_S8x4096x1x8)))⟩,
    ⟨S8x4096x2x8, addf (mulf (extractStridedSlice S8x4096x2x8 ![0, 0, 0, 8] Z slices_S8x4096x2x64_S8x4096x2x8_0_0_0_8) (broadcastInDim S8x4096x2x8 ![0, 1, 2, 3] bcast_S8x4096x1x8_S8x4096x2x8_0_1_2_3 (shapeCast _ C shapeCasts_S8x4096x8_S8x4096x1x8))) (mulf (extractStridedSlice S8x4096x2x8 ![0, 0, 0, 0] Z slices_S8x4096x2x64_S8x4096x2x8_0_0_0_0) (broadcastInDim S8x4096x2x8 ![0, 1, 2, 3] bcast_S8x4096x1x8_S8x4096x2x8_0_1_2_3 (shapeCast _ S shapeCasts_S8x4096x8_S8x4096x1x8)))⟩,
    ⟨S8x4096x2x48, extractStridedSlice S8x4096x2x48 ![0, 0, 0, 16] Z slices_S8x4096x2x64_S8x4096x2x48_0_0_0_16⟩] concatenates_S8x4096x2x8_S8x4096x2x8_S8x4096x2x48_S8x4096x2x64_d3

/-- 2 heads of the projection's columns, embedded. -/
def heads2 (Z : FVec Ideal S8x4096x128 .f32) (C S : FVec Ideal S8x4096x8 .f32) : FVec Ideal S8x2x4096x64 .f32 :=
  transpose S8x2x4096x64 [0, 2, 1, 3] (rope2 (shapeCast _ Z shapeCasts_S8x4096x128_S8x4096x2x64) C S) transposes_S8x4096x2x64_S8x2x4096x64_0_2_1_3

/-- The partial rotary embedding of one head. -/
def rope (Z : FVec Ideal S8x4096x64 .f32) (C S : FVec Ideal S8x4096x8 .f32) : FVec Ideal S8x4096x64 .f32 :=
  concatenate S8x4096x64 2 [⟨S8x4096x8, subf (mulf (extractStridedSlice S8x4096x8 ![0, 0, 0] Z slices_S8x4096x64_S8x4096x8_0_0_0) C) (mulf (extractStridedSlice S8x4096x8 ![0, 0, 8] Z slices_S8x4096x64_S8x4096x8_0_0_8) S)⟩, ⟨S8x4096x8, addf (mulf (extractStridedSlice S8x4096x8 ![0, 0, 8] Z slices_S8x4096x64_S8x4096x8_0_0_8) C) (mulf (extractStridedSlice S8x4096x8 ![0, 0, 0] Z slices_S8x4096x64_S8x4096x8_0_0_0) S)⟩,
    ⟨S8x4096x48, extractStridedSlice S8x4096x48 ![0, 0, 16] Z slices_S8x4096x64_S8x4096x48_0_0_16⟩] concatenates_S8x4096x8_S8x4096x8_S8x4096x48_S8x4096x64_d2

/-- The row a one and seven zeros. -/
def unitRow : FVec Ideal S8 .f32 :=
  shapeCast _ (uitofp .f32 (cmpi .eq (addi (iotaInDim S1x8 32 0) (broadcastInDim S1x8 ![] bcast_S_S1x8 (constantI S_ 32 0#32))) (iotaInDim S1x8 32 1)) : FVec Ideal S1x8 .f32) shapeCasts_S1x8_S8

/-- Two value heads of a group's columns. -/
def values (Z : FVec Ideal S8x4096x256 .f32) : FVec Ideal S8x2x4096x64 .f32 :=
  transpose S8x2x4096x64 [0, 2, 1, 3] (shapeCast _ (extractStridedSlice S8x4096x128 ![0, 0, 128] Z slices_S8x4096x256_S8x4096x128_0_0_128) shapeCasts_S8x4096x128_S8x4096x2x64) transposes_S8x4096x2x64_S8x2x4096x64_0_2_1_3

/-- Value rows of two heads: the values and the row a one and seven zeros, in chunks, the tokens last. -/
def rows2 (Z : FVec Ideal S8x2x4096x64 .f32) : FVec Ideal S8x2x16x72x256 .bf16 :=
  truncf .bf16 (transpose S8x2x16x72x256 [0, 1, 2, 4, 3] (shapeCast _ (concatenate S8x2x4096x72 3 [⟨S8x2x4096x64, Z⟩, ⟨S8x2x4096x8, broadcastInDim S8x2x4096x8 ![3] bcast_S8_S8x2x4096x8_3 unitRow⟩] concatenates_S8x2x4096x64_S8x2x4096x8_S8x2x4096x72_d3) shapeCasts_S8x2x4096x72_S8x2x16x256x72) transposes_S8x2x16x256x72_S8x2x16x72x256_0_1_2_4_3) bitsLt_bf16_f32

/-- The shared value's rows: the values and the row a one and seven zeros, in chunks, the tokens last. -/
def rows1 (Z : FVec Ideal S8x4096x128 .f32) : FVec Ideal S8x16x72x256 .bf16 :=
  truncf .bf16 (transpose S8x16x72x256 [0, 1, 3, 2] (shapeCast _ (concatenate S8x4096x72 2 [⟨S8x4096x64, extractStridedSlice S8x4096x64 ![0, 0, 64] Z slices_S8x4096x128_S8x4096x64_0_0_64⟩, ⟨S8x4096x8, broadcastInDim S8x4096x8 ![2] bcast_S8_S8x4096x8_2 unitRow⟩] concatenates_S8x4096x64_S8x4096x8_S8x4096x72_d2) shapeCasts_S8x4096x72_S8x16x256x72) transposes_S8x16x256x72_S8x16x72x256_0_1_3_2) bitsLt_bf16_f32

/-! The fifteen results, of the projection and the other arrays. -/

/-- Eight heads' queries, in the units of the exponential's base two. -/
def scaled (Z : FVec Ideal S8x8x4096x64 .f32) : FVec Ideal S8x8x4096x64 .bf16 :=
  truncf .bf16 (mulf Z (broadcastInDim S8x8x4096x64 ![] bcast_S_S8x8x4096x64 (constant S_ .f32 0x3E38AA3B#32))) bitsLt_bf16_f32
/-- The sparse attention's queries. -/
def res8 (Y : FVec Ideal S8x4096x5852 .f32) (C S : FVec Ideal S8x4096x8 .f32) : FVec Ideal S8x8x4096x64 .bf16 :=
  scaled (heads8 (extractStridedSlice S8x4096x512 ![0, 0, 0] Y slices_S8x4096x5852_S8x4096x512_0_0_0) C S)
/-- The shared key. -/
def res9 (Y : FVec Ideal S8x4096x5852 .f32) (C S : FVec Ideal S8x4096x8 .f32) (K : FVec Ideal S128 .f32) (U : FVec Ideal S128x128 .f32) : FVec Ideal S8x4096x64 .bf16 :=
  truncf .bf16 (rope (extractStridedSlice S8x4096x64 ![0, 0, 0] (keyval Y K U) slices_S8x4096x128_S8x4096x64_0_0_0) C S) bitsLt_bf16_f32
/-- The shared value's rows. -/
def res10 (Y : FVec Ideal S8x4096x5852 .f32) (K : FVec Ideal S128 .f32) (U : FVec Ideal S128x128 .f32) : FVec Ideal S8x16x72x256 .bf16 :=
  rows1 (keyval Y K U)
/-- The indexer's queries. -/
def res11 (Y : FVec Ideal S8x4096x5852 .f32) (C S : FVec Ideal S8x4096x8 .f32) : FVec Ideal S8x4x4096x64 .bf16 :=
  truncf .bf16 (mulf (heads4 (extractStridedSlice S8x4096x256 ![0, 0, 640] Y slices_S8x4096x5852_S8x4096x256_0_0_640) C S) (broadcastInDim S8x4x4096x64 ![] bcast_S_S8x4x4096x64 (constant S_ .f32 0x3E000000#32))) bitsLt_bf16_f32
/-- The indexer's key. -/
def res12 (Y : FVec Ideal S8x4096x5852 .f32) (C S : FVec Ideal S8x4096x8 .f32) : FVec Ideal S8x4096x64 .bf16 :=
  truncf .bf16 (rope (extractStridedSlice S8x4096x64 ![0, 0, 896] Y slices_S8x4096x5852_S8x4096x64_0_0_896) C S) bitsLt_bf16_f32
/-- The indexer's weights, four rows and four of zeros. -/
def res13 (Y : FVec Ideal S8x4096x5852 .f32) : FVec Ideal S8x8x4096 .f32 :=
  transpose S8x8x4096 [0, 2, 1] (pad S8x4096x8 ![0, 0, 0] ![0, 0, 4] ![0, 0, 0] (extractStridedSlice S8x4096x4 ![0, 0, 960] Y slices_S8x4096x5852_S8x4096x4_0_0_960) (sitofp .f32 (constantI S_ 32 0#32) : FVec Ideal S_ .f32) pads_S8x4096x4_S8x4096x8_000_000_040 h_S_) transposes_S8x4096x8_S8x8x4096_0_2_1
/-- The native sparse attention's queries. -/
def res14 (Y : FVec Ideal S8x4096x5852 .f32) (C S : FVec Ideal S8x4096x8 .f32) : FVec Ideal S8x8x4096x64 .bf16 :=
  scaled (heads8 (extractStridedSlice S8x4096x512 ![0, 0, 1476] Y slices_S8x4096x5852_S8x4096x512_0_0_1476) C S)
/-- The selected keys. -/
def res15 (Y : FVec Ideal S8x4096x5852 .f32) (C S : FVec Ideal S8x4096x8 .f32) : FVec Ideal S8x2x4096x64 .bf16 :=
  truncf .bf16 (heads2 (extractStridedSlice S8x4096x128 ![0, 0, 0] (extractStridedSlice S8x4096x256 ![0, 0, 2244] Y slices_S8x4096x5852_S8x4096x256_0_0_2244) slices_S8x4096x256_S8x4096x128_0_0_0) C S) bitsLt_bf16_f32
/-- The window's keys. -/
def res16 (Y : FVec Ideal S8x4096x5852 .f32) (C S : FVec Ideal S8x4096x8 .f32) : FVec Ideal S8x2x4096x64 .bf16 :=
  truncf .bf16 (heads2 (extractStridedSlice S8x4096x128 ![0, 0, 0] (extractStridedSlice S8x4096x256 ![0, 0, 2500] Y slices_S8x4096x5852_S8x4096x256_0_0_2500) slices_S8x4096x256_S8x4096x128_0_0_0) C S) bitsLt_bf16_f32
/-- The selected values' rows. -/
def res17 (Y : FVec Ideal S8x4096x5852 .f32) : FVec Ideal S8x2x16x72x256 .bf16 :=
  rows2 (values (extractStridedSlice S8x4096x256 ![0, 0, 2244] Y slices_S8x4096x5852_S8x4096x256_0_0_2244))
/-- The window's values' rows. -/
def res18 (Y : FVec Ideal S8x4096x5852 .f32) : FVec Ideal S8x2x16x72x256 .bf16 :=
  rows2 (values (extractStridedSlice S8x4096x256 ![0, 0, 2500] Y slices_S8x4096x5852_S8x4096x256_0_0_2500))
/-- The keys and values to be compressed. -/
def res19 (Y : FVec Ideal S8x4096x5852 .f32) (C S : FVec Ideal S8x4096x8 .f32) : FVec Ideal S8x4x4096x64 .f32 :=
  concatenate S8x4x4096x64 1 [⟨S8x2x4096x64, heads2 (extractStridedSlice S8x4096x128 ![0, 0, 0] (extractStridedSlice S8x4096x256 ![0, 0, 1988] Y slices_S8x4096x5852_S8x4096x256_0_0_1988) slices_S8x4096x256_S8x4096x128_0_0_0) C S⟩, ⟨S8x2x4096x64, values (extractStridedSlice S8x4096x256 ![0, 0, 1988] Y slices_S8x4096x5852_S8x4096x256_0_0_1988)⟩] concatenates_S8x2x4096x64_S8x2x4096x64_S8x4x4096x64_d1
/-- The branches' gates. -/
def res20 (Y : FVec Ideal S8x4096x5852 .f32) : FVec Ideal S8x24x4096 .f32 :=
  transpose S8x24x4096 [0, 2, 1] (extractStridedSlice S8x4096x24 ![0, 0, 2756] Y slices_S8x4096x5852_S8x4096x24_0_0_2756) transposes_S8x4096x24_S8x24x4096_0_2_1
/-- The pooling columns. -/
def res21 (Y : FVec Ideal S8x4096x5852 .f32) : FVec Ideal S8x4096x512 .f32 :=
  extractStridedSlice S8x4096x512 ![0, 0, 964] Y slices_S8x4096x5852_S8x4096x512_0_0_964
/-- The merge's gates. -/
def res22 (Y : FVec Ideal S8x4096x5852 .f32) : FVec Ideal S8x4096x3072 .bf16 :=
  truncf .bf16 (extractStridedSlice S8x4096x3072 ![0, 0, 2780] Y slices_S8x4096x5852_S8x4096x3072_0_0_2780) bitsLt_bf16_f32

end

end Cert.Proof.Input
end
-- ==== Proof.InputLanes.lean ====
/-
  A block of lanes under the three tables is the partial rotary embedding of the heads it holds.
-/
module

public import proofs.«01_k».proof.Proof.InputRef

@[expose] public section

set_option maxRecDepth 16384

noncomputable section

namespace Cert.Proof.Input

open Idealize.ShloMosaic Idealize.ShloMosaic.TcCoe Idealize.SL.Sem

section
open Cert.Kernel4Ideal Cert.Kernel4Ideal.Gen

/-- The embedding of a block of lanes as the kernel computes it: the lanes, and the lanes rolled either way, under their tables. -/
def lanes (Z Ct Sa Sb : FVec Ideal S512x128 .f32) : FVec Ideal S512x128 .f32 :=
  addf (addf (mulf Z Ct) (mulf (dynamicRotate 1 120#32 none Z rotates_S512x128_d1) Sa)) (mulf (dynamicRotate 1 8#32 none Z rotates_S512x128_d1) Sb)

/-- What the three tables hold of the angles, lane by lane. -/
structure Tables (Ct Sa Sb : FVec Ideal S512x128 .f32) (C S : FVec Ideal Cert.Reference4Ideal.S8x4096x8 .f32) (b r : ℕ) : Prop where
  cos : ∀ (i : S512x128.Idx) (k : Cert.Reference4Ideal.S8x4096x8.Idx), (k 0 : ℕ) = b → (k 1 : ℕ) = r + i 0 → (i 1 : ℕ) % 64 < 16 → (k 2 : ℕ) = (i 1 : ℕ) % 8 → Ct i = C k
  one : ∀ i : S512x128.Idx, 16 ≤ (i 1 : ℕ) % 64 → Ct i = (1 : EReal)
  neg : ∀ (i : S512x128.Idx) (k : Cert.Reference4Ideal.S8x4096x8.Idx), (k 0 : ℕ) = b → (k 1 : ℕ) = r + i 0 → (i 1 : ℕ) % 64 < 8 → (k 2 : ℕ) = (i 1 : ℕ) % 8 → Sa i = -(S k : EReal)
  nil : ∀ i : S512x128.Idx, 8 ≤ (i 1 : ℕ) % 64 → Sa i = (0 : EReal)
  sin : ∀ (i : S512x128.Idx) (k : Cert.Reference4Ideal.S8x4096x8.Idx), (k 0 : ℕ) = b → (k 1 : ℕ) = r + i 0 → 8 ≤ (i 1 : ℕ) % 64 → (i 1 : ℕ) % 64 < 16 → (k 2 : ℕ) = (i 1 : ℕ) % 8 → Sb i = S k
  nul : ∀ i : S512x128.Idx, ((i 1 : ℕ) % 64 < 8 ∨ 16 ≤ (i 1 : ℕ) % 64) → Sb i = (0 : EReal)

theorem below (z w u c s : EReal) : z * c + w * -s + u * 0 = z * c - w * s := by
  rw [mul_zero, add_zero, mul_neg, sub_eq_add_neg]

theorem within (z w u c s : EReal) : z * c + w * 0 + u * s = z * c + u * s := by
  rw [mul_zero, add_zero]

theorem above (z w u : EReal) : z * 1 + w * 0 + u * 0 = z := by
  rw [mul_zero, mul_zero, add_zero, add_zero, mul_one]

theorem lanes_at8 (Z Ct Sa Sb : FVec Ideal S512x128 .f32) (X : FVec Ideal Cert.Reference4Ideal.S8x4096x8x64 .f32) (C S : FVec Ideal Cert.Reference4Ideal.S8x4096x8 .f32)
    (b r h : ℕ) (T : Tables Ct Sa Sb C S b r)
    (hZ : ∀ (i : S512x128.Idx) (j : Cert.Reference4Ideal.S8x4096x8x64.Idx), (j 0 : ℕ) = b → (j 1 : ℕ) = r + i 0 → (j 2 : ℕ) = h + (i 1 : ℕ) / 64 → (j 3 : ℕ) = (i 1 : ℕ) % 64 → Z i = X j)
    (i : S512x128.Idx) (j : Cert.Reference4Ideal.S8x4096x8x64.Idx) (h0 : (j 0 : ℕ) = b) (h1 : (j 1 : ℕ) = r + i 0) (h2 : (j 2 : ℕ) = h + (i 1 : ℕ) / 64) (h3 : (j 3 : ℕ) = (i 1 : ℕ) % 64) :
    lanes Z Ct Sa Sb i = rope8 X C S j := by
  have hi : (i 1 : ℕ) < 128 := (i 1).isLt
  pointwise [lanes, rope8]
  by_cases a : (j 3 : ℕ) < 8
  · have e1 : Ct i = C (ix3 (j 0) (j 1) ⟨(j 3 : ℕ), a⟩) := T.cos i _ h0 h1 (by omega) (by dsimp [ix2, ix3, ix4]; omega)
    have e2 : Sa i = -(S (ix3 (j 0) (j 1) ⟨(j 3 : ℕ), a⟩) : EReal) := T.neg i _ h0 h1 (by omega) (by dsimp [ix2, ix3, ix4]; omega)
    have e3 : Z (ix2 (i 0) ⟨((i 1 : ℕ) + 128 - 120) % 128, by omega⟩) = X (ix4 (j 0) (j 1) (j 2) ⟨8 + (j 3 : ℕ), by omega⟩) := hZ _ _ h0 h1 (by dsimp [ix2, ix3, ix4]; omega) (by dsimp [ix2, ix3, ix4]; omega)
    rw [dif_pos a, e1, e2, e3, T.nul i (by omega), hZ i j h0 h1 h2 h3]
    exact below _ _ _ _ _
  rw [dif_neg a]
  by_cases a' : (j 3 : ℕ) - 8 < 8
  · have e1 : Ct i = C (ix3 (j 0) (j 1) ⟨(j 3 : ℕ) - 8, a'⟩) := T.cos i _ h0 h1 (by omega) (by dsimp [ix2, ix3, ix4]; omega)
    have e2 : Sb i = S (ix3 (j 0) (j 1) ⟨(j 3 : ℕ) - 8, a'⟩) := T.sin i _ h0 h1 (by omega) (by omega) (by dsimp [ix2, ix3, ix4]; omega)
    have e3 : Z (ix2 (i 0) ⟨((i 1 : ℕ) + 128 - 8) % 128, by omega⟩) = X (ix4 (j 0) (j 1) (j 2) ⟨(j 3 : ℕ) - 8, by omega⟩) := hZ _ _ h0 h1 (by dsimp [ix2, ix3, ix4]; omega) (by dsimp [ix2, ix3, ix4]; omega)
    have e4 : Z i = X (ix4 (j 0) (j 1) (j 2) ⟨8 + ((j 3 : ℕ) - 8), by omega⟩) := hZ _ _ h0 h1 h2 (by dsimp [ix2, ix3, ix4]; omega)
    rw [dif_pos a', e1, e2, e3, T.nil i (by omega), e4]
    exact within _ _ _ _ _
  have e4 : Z i = X (ix4 (j 0) (j 1) (j 2) ⟨16 + ((j 3 : ℕ) - 8 - 8), by omega⟩) := hZ _ _ h0 h1 h2 (by dsimp [ix2, ix3, ix4]; omega)
  rw [dif_neg a', T.one i (by omega), T.nil i (by omega), T.nul i (by omega), e4]
  exact above _ _ _

theorem lanes_at4 (Z Ct Sa Sb : FVec Ideal S512x128 .f32) (X : FVec Ideal Cert.Reference4Ideal.S8x4096x4x64 .f32) (C S : FVec Ideal Cert.Reference4Ideal.S8x4096x8 .f32)
    (b r h : ℕ) (T : Tables Ct Sa Sb C S b r)
    (hZ : ∀ (i : S512x128.Idx) (j : Cert.Reference4Ideal.S8x4096x4x64.Idx), (j 0 : ℕ) = b → (j 1 : ℕ) = r + i 0 → (j 2 : ℕ) = h + (i 1 : ℕ) / 64 → (j 3 : ℕ) = (i 1 : ℕ) % 64 → Z i = X j)
    (i : S512x128.Idx) (j : Cert.Reference4Ideal.S8x4096x4x64.Idx) (h0 : (j 0 : ℕ) = b) (h1 : (j 1 : ℕ) = r + i 0) (h2 : (j 2 : ℕ) = h + (i 1 : ℕ) / 64) (h3 : (j 3 : ℕ) = (i 1 : ℕ) % 64) :
    lanes Z Ct Sa Sb i = rope4 X C S j := by
  have hi : (i 1 : ℕ) < 128 := (i 1).isLt
  pointwise [lanes, rope4]
  by_cases a : (j 3 : ℕ) < 8
  · have e1 : Ct i = C (ix3 (j 0) (j 1) ⟨(j 3 : ℕ), a⟩) := T.cos i _ h0 h1 (by omega) (by dsimp [ix2, ix3, ix4]; omega)
    have e2 : Sa i = -(S (ix3 (j 0) (j 1) ⟨(j 3 : ℕ), a⟩) : EReal) := T.neg i _ h0 h1 (by omega) (by dsimp [ix2, ix3, ix4]; omega)
    have e3 : Z (ix2 (i 0) ⟨((i 1 : ℕ) + 128 - 120) % 128, by omega⟩) = X (ix4 (j 0) (j 1) (j 2) ⟨8 + (j 3 : ℕ), by omega⟩) := hZ _ _ h0 h1 (by dsimp [ix2, ix3, ix4]; omega) (by dsimp [ix2, ix3, ix4]; omega)
    rw [dif_pos a, e1, e2, e3, T.nul i (by omega), hZ i j h0 h1 h2 h3]
    exact below _ _ _ _ _
  rw [dif_neg a]
  by_cases a' : (j 3 : ℕ) - 8 < 8
  · have e1 : Ct i = C (ix3 (j 0) (j 1) ⟨(j 3 : ℕ) - 8, a'⟩) := T.cos i _ h0 h1 (by omega) (by dsimp [ix2, ix3, ix4]; omega)
    have e2 : Sb i = S (ix3 (j 0) (j 1) ⟨(j 3 : ℕ) - 8, a'⟩) := T.sin i _ h0 h1 (by omega) (by omega) (by dsimp [ix2, ix3, ix4]; omega)
    have e3 : Z (ix2 (i 0) ⟨((i 1 : ℕ) + 128 - 8) % 128, by omega⟩) = X (ix4 (j 0) (j 1) (j 2) ⟨(j 3 : ℕ) - 8, by omega⟩) := hZ _ _ h0 h1 (by dsimp [ix2, ix3, ix4]; omega) (by dsimp [ix2, ix3, ix4]; omega)
    have e4 : Z i = X (ix4 (j 0) (j 1) (j 2) ⟨8 + ((j 3 : ℕ) - 8), by omega⟩) := hZ _ _ h0 h1 h2 (by dsimp [ix2, ix3, ix4]; omega)
    rw [dif_pos a', e1, e2, e3, T.nil i (by omega), e4]
    exact within _ _ _ _ _
  have e4 : Z i = X (ix4 (j 0) (j 1) (j 2) ⟨16 + ((j 3 : ℕ) - 8 - 8), by omega⟩) := hZ _ _ h0 h1 h2 (by dsimp [ix2, ix3, ix4]; omega)
  rw [dif_neg a', T.one i (by omega), T.nil i (by omega), T.nul i (by omega), e4]
  exact above _ _ _

theorem lanes_at2 (Z Ct Sa Sb : FVec Ideal S512x128 .f32) (X : FVec Ideal Cert.Reference4Ideal.S8x4096x2x64 .f32) (C S : FVec Ideal Cert.Reference4Ideal.S8x4096x8 .f32)
    (b r h : ℕ) (T : Tables Ct Sa Sb C S b r)
    (hZ : ∀ (i : S512x128.Idx) (j : Cert.Reference4Ideal.S8x4096x2x64.Idx), (j 0 : ℕ) = b → (j 1 : ℕ) = r + i 0 → (j 2 : ℕ) = h + (i 1 : ℕ) / 64 → (j 3 : ℕ) = (i 1 : ℕ) % 64 → Z i = X j)
    (i : S512x128.Idx) (j : Cert.Reference4Ideal.S8x4096x2x64.Idx) (h0 : (j 0 : ℕ) = b) (h1 : (j 1 : ℕ) = r + i 0) (h2 : (j 2 : ℕ) = h + (i 1 : ℕ) / 64) (h3 : (j 3 : ℕ) = (i 1 : ℕ) % 64) :
    lanes Z Ct Sa Sb i = rope2 X C S j := by
  have hi : (i 1 : ℕ) < 128 := (i 1).isLt
  pointwise [lanes, rope2]
  by_cases a : (j 3 : ℕ) < 8
  · have e1 : Ct i = C (ix3 (j 0) (j 1) ⟨(j 3 : ℕ), a⟩) := T.cos i _ h0 h1 (by omega) (by dsimp [ix2, ix3, ix4]; omega)
    have e2 : Sa i = -(S (ix3 (j 0) (j 1) ⟨(j 3 : ℕ), a⟩) : EReal) := T.neg i _ h0 h1 (by omega) (by dsimp [ix2, ix3, ix4]; omega)
    have e3 : Z (ix2 (i 0) ⟨((i 1 : ℕ) + 128 - 120) % 128, by omega⟩) = X (ix4 (j 0) (j 1) (j 2) ⟨8 + (j 3 : ℕ), by omega⟩) := hZ _ _ h0 h1 (by dsimp [ix2, ix3, ix4]; omega) (by dsimp [ix2, ix3, ix4]; omega)
    rw [dif_pos a, e1, e2, e3, T.nul i (by omega), hZ i j h0 h1 h2 h3]
    exact below _ _ _ _ _
  rw [dif_neg a]
  by_cases a' : (j 3 : ℕ) - 8 < 8
  · have e1 : Ct i = C (ix3 (j 0) (j 1) ⟨(j 3 : ℕ) - 8, a'⟩) := T.cos i _ h0 h1 (by omega) (by dsimp [ix2, ix3, ix4]; omega)
    have e2 : Sb i = S (ix3 (j 0) (j 1) ⟨(j 3 : ℕ) - 8, a'⟩) := T.sin i _ h0 h1 (by omega) (by omega) (by dsimp [ix2, ix3, ix4]; omega)
    have e3 : Z (ix2 (i 0) ⟨((i 1 : ℕ) + 128 - 8) % 128, by omega⟩) = X (ix4 (j 0) (j 1) (j 2) ⟨(j 3 : ℕ) - 8, by omega⟩) := hZ _ _ h0 h1 (by dsimp [ix2, ix3, ix4]; omega) (by dsimp [ix2, ix3, ix4]; omega)
    have e4 : Z i = X (ix4 (j 0) (j 1) (j 2) ⟨8 + ((j 3 : ℕ) - 8), by omega⟩) := hZ _ _ h0 h1 h2 (by dsimp [ix2, ix3, ix4]; omega)
    rw [dif_pos a', e1, e2, e3, T.nil i (by omega), e4]
    exact within _ _ _ _ _
  have e4 : Z i = X (ix4 (j 0) (j 1) (j 2) ⟨16 + ((j 3 : ℕ) - 8 - 8), by omega⟩) := hZ _ _ h0 h1 h2 (by dsimp [ix2, ix3, ix4]; omega)
  rw [dif_neg a', T.one i (by omega), T.nil i (by omega), T.nul i (by omega), e4]
  exact above _ _ _

theorem lanes_at0 (Z Ct Sa Sb : FVec Ideal S512x128 .f32) (X : FVec Ideal Cert.Reference4Ideal.S8x4096x64 .f32) (C S : FVec Ideal Cert.Reference4Ideal.S8x4096x8 .f32)
    (b r : ℕ) (T : Tables Ct Sa Sb C S b r)
    (hZ : ∀ (i : S512x128.Idx) (j : Cert.Reference4Ideal.S8x4096x64.Idx), (j 0 : ℕ) = b → (j 1 : ℕ) = r + i 0 → (i 1 : ℕ) < 64 → (j 2 : ℕ) = (i 1 : ℕ) % 64 → Z i = X j)
    (i : S512x128.Idx) (j : Cert.Reference4Ideal.S8x4096x64.Idx) (h0 : (j 0 : ℕ) = b) (h1 : (j 1 : ℕ) = r + i 0) (h2 : (i 1 : ℕ) < 64) (h3 : (j 2 : ℕ) = (i 1 : ℕ) % 64) :
    lanes Z Ct Sa Sb i = rope X C S j := by
  have hi : (i 1 : ℕ) < 128 := (i 1).isLt
  pointwise [lanes, rope]
  by_cases a : (j 2 : ℕ) < 8
  · have e1 : Ct i = C (ix3 (j 0) (j 1) ⟨(j 2 : ℕ), a⟩) := T.cos i _ h0 h1 (by omega) (by dsimp [ix2, ix3, ix4]; omega)
    have e2 : Sa i = -(S (ix3 (j 0) (j 1) ⟨(j 2 : ℕ), a⟩) : EReal) := T.neg i _ h0 h1 (by omega) (by dsimp [ix2, ix3, ix4]; omega)
    have e3 : Z (ix2 (i 0) ⟨((i 1 : ℕ) + 128 - 120) % 128, by omega⟩) = X (ix3 (j 0) (j 1) ⟨8 + (j 2 : ℕ), by omega⟩) := hZ _ _ h0 h1 (by dsimp [ix2, ix3, ix4]; omega) (by dsimp [ix2, ix3, ix4]; omega)
    rw [dif_pos a, e1, e2, e3, T.nul i (by omega), hZ i j h0 h1 h2 h3]
    exact below _ _ _ _ _
  rw [dif_neg a]
  by_cases a' : (j 2 : ℕ) - 8 < 8
  · have e1 : Ct i = C (ix3 (j 0) (j 1) ⟨(j 2 : ℕ) - 8, a'⟩) := T.cos i _ h0 h1 (by omega) (by dsimp [ix2, ix3, ix4]; omega)
    have e2 : Sb i = S (ix3 (j 0) (j 1) ⟨(j 2 : ℕ) - 8, a'⟩) := T.sin i _ h0 h1 (by omega) (by omega) (by dsimp [ix2, ix3, ix4]; omega)
    have e3 : Z (ix2 (i 0) ⟨((i 1 : ℕ) + 128 - 8) % 128, by omega⟩) = X (ix3 (j 0) (j 1) ⟨(j 2 : ℕ) - 8, by omega⟩) := hZ _ _ h0 h1 (by dsimp [ix2, ix3, ix4]; omega) (by dsimp [ix2, ix3, ix4]; omega)
    have e4 : Z i = X (ix3 (j 0) (j 1) ⟨8 + ((j 2 : ℕ) - 8), by omega⟩) := hZ _ _ h0 h1 h2 (by dsimp [ix2, ix3, ix4]; omega)
    rw [dif_pos a', e1, e2, e3, T.nil i (by omega), e4]
    exact within _ _ _ _ _
  have e4 : Z i = X (ix3 (j 0) (j 1) ⟨16 + ((j 2 : ℕ) - 8 - 8), by omega⟩) := hZ _ _ h0 h1 h2 (by dsimp [ix2, ix3, ix4]; omega)
  rw [dif_neg a', T.one i (by omega), T.nil i (by omega), T.nul i (by omega), e4]
  exact above _ _ _

end

end Cert.Proof.Input
end
-- ==== Proof.InputHost.lean ====
/-
  What the input call's host code prepares, what a point takes of it, and the projection's sections.
-/
module

public import proofs.«01_k».proof.Proof.InputLanes

@[expose] public section

set_option maxRecDepth 16384

noncomputable section

namespace Cert.Proof.Input

open Idealize.ShloMosaic Idealize.ShloMosaic.TcCoe Idealize.SL.Sem
open Idealize.ShloMosaic.Pipeline (Dat)

section
open Cert.Kernel4Ideal Cert.Kernel4Ideal.Gen

variable (m : (ℓ : Loc nD τ sig) → Buf (Elt Ideal) ℓ)

/-- The arguments of the launch, as arrays. -/
abbrev aX (c : Dev nD) : FVec Ideal Cert.Reference4Ideal.S8x4096x1024 .f32 := m ((c : Thread nD τ).loc main_arg0)
abbrev aC (c : Dev nD) : FVec Ideal Cert.Reference4Ideal.S8x4096x8 .f32 := m ((c : Thread nD τ).loc main_arg1)
abbrev aS (c : Dev nD) : FVec Ideal Cert.Reference4Ideal.S8x4096x8 .f32 := m ((c : Thread nD τ).loc main_arg2)
abbrev aG (c : Dev nD) : FVec Ideal Cert.Reference4Ideal.S1024 .f32 := m ((c : Thread nD τ).loc main_arg3)
abbrev aW (c : Dev nD) : FVec Ideal Cert.Reference4Ideal.S1024x5852 .f32 := m ((c : Thread nD τ).loc main_arg4)
abbrev aK (c : Dev nD) : FVec Ideal Cert.Reference4Ideal.S128 .f32 := m ((c : Thread nD τ).loc main_arg5)
abbrev aU (c : Dev nD) : FVec Ideal Cert.Reference4Ideal.S128x128 .f32 := m ((c : Thread nD τ).loc main_arg6)
abbrev aY (c : Dev nD) : FVec Ideal Cert.Reference4Ideal.S8x4096x5852 .f32 := proj (aX m c) (aG m c) (aW m c)

/-! ## The arrays the host prepares -/

/-- The cosines on the lanes, a one where a lane is not turned. -/
def hcos (C : FVec Ideal S8x4096x8 .f32) : FVec Ideal S8x4096x128 .f32 :=
  concatenate S8x4096x128 2 [⟨S8x4096x8, C⟩, ⟨S8x4096x8, C⟩, ⟨S8x4096x48, addf (broadcastInDim S8x4096x48 ![] bcast_S_S8x4096x48 (constant S_ .f32 0x00000000#32) : FVec Ideal S8x4096x48 .f32) (broadcastInDim S8x4096x48 ![] bcast_S_S8x4096x48 (constant S_ .f32 0x3F800000#32) : FVec Ideal S8x4096x48 .f32)⟩, ⟨S8x4096x8, C⟩, ⟨S8x4096x8, C⟩, ⟨S8x4096x48, addf (broadcastInDim S8x4096x48 ![] bcast_S_S8x4096x48 (constant S_ .f32 0x00000000#32) : FVec Ideal S8x4096x48 .f32) (broadcastInDim S8x4096x48 ![] bcast_S_S8x4096x48 (constant S_ .f32 0x3F800000#32) : FVec Ideal S8x4096x48 .f32)⟩] concatenates_S8x4096x8_S8x4096x8_S8x4096x48_S8x4096x8_S8x4096x8_S8x4096x48_S8x4096x128_d2
/-- The sines the lanes eight further on take, negated. -/
def hneg (S : FVec Ideal S8x4096x8 .f32) : FVec Ideal S8x4096x128 .f32 :=
  concatenate S8x4096x128 2 [⟨S8x4096x8, (Host.negf S : FVec Ideal S8x4096x8 .f32)⟩, ⟨S8x4096x8, (broadcastInDim S8x4096x8 ![] bcast_S_S8x4096x8 (constant S_ .f32 0x00000000#32) : FVec Ideal S8x4096x8 .f32)⟩, ⟨S8x4096x48, (broadcastInDim S8x4096x48 ![] bcast_S_S8x4096x48 (constant S_ .f32 0x00000000#32) : FVec Ideal S8x4096x48 .f32)⟩, ⟨S8x4096x8, (Host.negf S : FVec Ideal S8x4096x8 .f32)⟩, ⟨S8x4096x8, (broadcastInDim S8x4096x8 ![] bcast_S_S8x4096x8 (constant S_ .f32 0x00000000#32) : FVec Ideal S8x4096x8 .f32)⟩, ⟨S8x4096x48, (broadcastInDim S8x4096x48 ![] bcast_S_S8x4096x48 (constant S_ .f32 0x00000000#32) : FVec Ideal S8x4096x48 .f32)⟩] concatenates_S8x4096x8_S8x4096x8_S8x4096x48_S8x4096x8_S8x4096x8_S8x4096x48_S8x4096x128_d2
/-- The sines the lanes eight further back take. -/
def hsin (S : FVec Ideal S8x4096x8 .f32) : FVec Ideal S8x4096x128 .f32 :=
  concatenate S8x4096x128 2 [⟨S8x4096x8, (broadcastInDim S8x4096x8 ![] bcast_S_S8x4096x8 (constant S_ .f32 0x00000000#32) : FVec Ideal S8x4096x8 .f32)⟩, ⟨S8x4096x8, S⟩, ⟨S8x4096x48, (broadcastInDim S8x4096x48 ![] bcast_S_S8x4096x48 (constant S_ .f32 0x00000000#32) : FVec Ideal S8x4096x48 .f32)⟩, ⟨S8x4096x8, (broadcastInDim S8x4096x8 ![] bcast_S_S8x4096x8 (constant S_ .f32 0x00000000#32) : FVec Ideal S8x4096x8 .f32)⟩, ⟨S8x4096x8, S⟩, ⟨S8x4096x48, (broadcastInDim S8x4096x48 ![] bcast_S_S8x4096x48 (constant S_ .f32 0x00000000#32) : FVec Ideal S8x4096x48 .f32)⟩] concatenates_S8x4096x8_S8x4096x8_S8x4096x48_S8x4096x8_S8x4096x8_S8x4096x48_S8x4096x128_d2
/-- The weight's columns as rows, packed with rows of zeros between. -/
def hpack (W : FVec Ideal S1024x5852 .f32) : FVec Ideal S6144x1024 .bf16 :=
  concatenate S6144x1024 0 [⟨S964x1024, extractStridedSlice S964x1024 ![0, 0] (truncf .bf16 (transpose S5852x1024 [1, 0] W transposes_S1024x5852_S5852x1024_1_0 : FVec Ideal S5852x1024 .f32) bitsLt_bf16_f32 : FVec Ideal S5852x1024 .bf16) slices_S5852x1024_S964x1024_0_0⟩, ⟨S60x1024, (broadcastInDim S60x1024 ![] bcast_S_S60x1024 (constant S_ .bf16 0x0000#16) : FVec Ideal S60x1024 .bf16)⟩, ⟨S1792x1024, extractStridedSlice S1792x1024 ![964, 0] (truncf .bf16 (transpose S5852x1024 [1, 0] W transposes_S1024x5852_S5852x1024_1_0 : FVec Ideal S5852x1024 .f32) bitsLt_bf16_f32 : FVec Ideal S5852x1024 .bf16) slices_S5852x1024_S1792x1024_964_0⟩, ⟨S24x1024, extractStridedSlice S24x1024 ![2756, 0] (truncf .bf16 (transpose S5852x1024 [1, 0] W transposes_S1024x5852_S5852x1024_1_0 : FVec Ideal S5852x1024 .f32) bitsLt_bf16_f32 : FVec Ideal S5852x1024 .bf16) slices_S5852x1024_S24x1024_2756_0⟩, ⟨S232x1024, (broadcastInDim S232x1024 ![] bcast_S_S232x1024 (constant S_ .bf16 0x0000#16) : FVec Ideal S232x1024 .bf16)⟩, ⟨S3072x1024, extractStridedSlice S3072x1024 ![2780, 0] (truncf .bf16 (transpose S5852x1024 [1, 0] W transposes_S1024x5852_S5852x1024_1_0 : FVec Ideal S5852x1024 .f32) bitsLt_bf16_f32 : FVec Ideal S5852x1024 .bf16) slices_S5852x1024_S3072x1024_2780_0⟩]
    concatenates_S964x1024_S60x1024_S1792x1024_S24x1024_S232x1024_S3072x1024_S6144x1024_d0

theorem vcos (c : Dev nD) : V m c main_v4 = hcos (aC m c) := rfl
theorem vneg (c : Dev nD) : V m c main_v6 = hneg (aS m c) := rfl
theorem vsin (c : Dev nD) : V m c main_v7 = hsin (aS m c) := rfl
theorem vpack (c : Dev nD) : V m c main_v17 = hpack (aW m c) := rfl

/-! ## What they hold -/

theorem hcos_at (C : FVec Ideal S8x4096x8 .f32) (x : S8x4096x128.Idx) (k : S8x4096x8.Idx) (h0 : (k 0 : ℕ) = x 0) (h1 : (k 1 : ℕ) = x 1) (h : (x 2 : ℕ) % 64 < 16) (h2 : (k 2 : ℕ) = (x 2 : ℕ) % 8) : hcos C x = C k := by
  have hx : (x 2 : ℕ) < 128 := (x 2).isLt
  pointwise [hcos]
  split_ifs
  all_goals first | (exfalso; omega) | blk_ext | (refine congrArg Neg.neg ?_; blk_ext)
theorem hcos_one (C : FVec Ideal S8x4096x8 .f32) (x : S8x4096x128.Idx) (h : 16 ≤ (x 2 : ℕ) % 64) : hcos C x = (1 : EReal) := by
  have hx : (x 2 : ℕ) < 128 := (x 2).isLt
  pointwise [hcos]
  split_ifs
  all_goals first | (exfalso; omega) | blk_ext | (refine congrArg Neg.neg ?_; blk_ext)
theorem hneg_at (S : FVec Ideal S8x4096x8 .f32) (x : S8x4096x128.Idx) (k : S8x4096x8.Idx) (h0 : (k 0 : ℕ) = x 0) (h1 : (k 1 : ℕ) = x 1) (h : (x 2 : ℕ) % 64 < 8) (h2 : (k 2 : ℕ) = (x 2 : ℕ) % 8) : hneg S x = -(S k : EReal) := by
  have hx : (x 2 : ℕ) < 128 := (x 2).isLt
  pointwise [hneg]
  split_ifs
  all_goals first | (exfalso; omega) | blk_ext | (refine congrArg Neg.neg ?_; blk_ext)
theorem hneg_zero (S : FVec Ideal S8x4096x8 .f32) (x : S8x4096x128.Idx) (h : 8 ≤ (x 2 : ℕ) % 64) : hneg S x = (0 : EReal) := by
  have hx : (x 2 : ℕ) < 128 := (x 2).isLt
  pointwise [hneg]
  split_ifs
  all_goals first | (exfalso; omega) | blk_ext | (refine congrArg Neg.neg ?_; blk_ext)
theorem hsin_at (S : FVec Ideal S8x4096x8 .f32) (x : S8x4096x128.Idx) (k : S8x4096x8.Idx) (h0 : (k 0 : ℕ) = x 0) (h1 : (k 1 : ℕ) = x 1) (h : 8 ≤ (x 2 : ℕ) % 64) (h' : (x 2 : ℕ) % 64 < 16) (h2 : (k 2 : ℕ) = (x 2 : ℕ) % 8) : hsin S x = S k := by
  have hx : (x 2 : ℕ) < 128 := (x 2).isLt
  pointwise [hsin]
  split_ifs
  all_goals first | (exfalso; omega) | blk_ext | (refine congrArg Neg.neg ?_; blk_ext)
theorem hsin_zero (S : FVec Ideal S8x4096x8 .f32) (x : S8x4096x128.Idx) (h : (x 2 : ℕ) % 64 < 8 ∨ 16 ≤ (x 2 : ℕ) % 64) : hsin S x = (0 : EReal) := by
  have hx : (x 2 : ℕ) < 128 := (x 2).isLt
  pointwise [hsin]
  split_ifs
  all_goals first | (exfalso; omega) | blk_ext | (refine congrArg Neg.neg ?_; blk_ext)
theorem hpack_at (W : FVec Ideal S1024x5852 .f32) (x : S6144x1024.Idx) (y : S1024x5852.Idx) (h : (x 0 : ℕ) < 964 ∧ (y 1 : ℕ) = x 0 ∨ 1024 ≤ (x 0 : ℕ) ∧ (x 0 : ℕ) < 2840 ∧ (y 1 : ℕ) = x 0 - 60 ∨ 3072 ≤ (x 0 : ℕ) ∧ (y 1 : ℕ) = x 0 - 292)
    (h1 : (y 0 : ℕ) = x 1) : hpack W x = W y := by
  have hx : (x 0 : ℕ) < 6144 := (x 0).isLt
  pointwise [hpack]
  split_ifs
  all_goals first | (exfalso; omega) | blk_ext | (refine congrArg Neg.neg ?_; blk_ext)
theorem hpack_zero (W : FVec Ideal S1024x5852 .f32) (x : S6144x1024.Idx) (h : 964 ≤ (x 0 : ℕ) ∧ (x 0 : ℕ) < 1024) : hpack W x = (0 : EReal) := by
  have hx : (x 0 : ℕ) < 6144 := (x 0).isLt
  pointwise [hpack]
  split_ifs
  all_goals first | (exfalso; omega) | blk_ext | (refine congrArg Neg.neg ?_; blk_ext)

/-! ## The blocks a point takes of them -/

theorem idx : ∀ t : Fin cfg0.N,
    win0_0.index t = ![t.val / 8, t.val % 8, 0] ∧ win0_1.index t = ![0, 0] ∧ win0_2.index t = ![0, 0] ∧ win0_3.index t = ![t.val / 8, t.val % 8, 0] ∧ win0_4.index t = ![t.val / 8, t.val % 8, 0]
    ∧ win0_5.index t = ![t.val / 8, t.val % 8, 0] ∧ win0_6.index t = ![0, 0] ∧ win0_7.index t = ![0, 0] := by decide +kernel

theorem blkcos (c : Dev nD) (t : Fin cfg0.N) (x : S1x512x128.Idx) (k : S8x4096x128.Idx) (h0 : (k 0 : ℕ) = t.val / 8) (h1 : (k 1 : ℕ) = t.val % 8 * 512 + x 1) (h : (k 2 : ℕ) = x 2) : iblk m c 3 t x = hcos (aC m c) k := by
  unfold iblk
  rw [show V m c (Pipeline.arrRef spec0 3) = hcos (aC m c) from vcos m c]
  generalize hcos (aC m c) = H
  blk_ext [idx t]
theorem blkneg (c : Dev nD) (t : Fin cfg0.N) (x : S1x512x128.Idx) (k : S8x4096x128.Idx) (h0 : (k 0 : ℕ) = t.val / 8) (h1 : (k 1 : ℕ) = t.val % 8 * 512 + x 1) (h : (k 2 : ℕ) = x 2) : iblk m c 4 t x = hneg (aS m c) k := by
  unfold iblk
  rw [show V m c (Pipeline.arrRef spec0 4) = hneg (aS m c) from vneg m c]
  generalize hneg (aS m c) = H
  blk_ext [idx t]
theorem blksin (c : Dev nD) (t : Fin cfg0.N) (x : S1x512x128.Idx) (k : S8x4096x128.Idx) (h0 : (k 0 : ℕ) = t.val / 8) (h1 : (k 1 : ℕ) = t.val % 8 * 512 + x 1) (h : (k 2 : ℕ) = x 2) : iblk m c 5 t x = hsin (aS m c) k := by
  unfold iblk
  rw [show V m c (Pipeline.arrRef spec0 5) = hsin (aS m c) from vsin m c]
  generalize hsin (aS m c) = H
  blk_ext [idx t]
theorem blkpack (c : Dev nD) (t : Fin cfg0.N) (x : S6144x1024.Idx) : iblk m c 2 t x = hpack (aW m c) x := by
  unfold iblk
  rw [show V m c (Pipeline.arrRef spec0 2) = hpack (aW m c) from vpack m c]
  generalize hpack (aW m c) = H
  blk_ext [idx t]

/-- The three tables at a point. -/
theorem tables (c : Dev nD) (t : Fin cfg0.N) : Tables (k0_pay3 (F := Ideal) (iblk m c 3 t)) (k0_pay4 (F := Ideal) (iblk m c 4 t)) (k0_pay5 (F := Ideal) (iblk m c 5 t)) (aC m c) (aS m c) (t.val / 8) (t.val % 8 * 512) := by
  have ht : t.val < 64 := lt_of_lt_of_eq t.isLt N_0
  have hk (i : S512x128.Idx) : ∃ k : S8x4096x128.Idx, (k 0 : ℕ) = t.val / 8 ∧ (k 1 : ℕ) = t.val % 8 * 512 + i 0 ∧ (k 2 : ℕ) = i 1 := by
    have h0 : (i 0 : ℕ) < 512 := (i 0).isLt
    exact ⟨ix3 ⟨t.val / 8, by omega⟩ ⟨t.val % 8 * 512 + i 0, by omega⟩ (i 1), rfl, rfl, rfl⟩
  have p3 (i : S512x128.Idx) : k0_pay3 (F := Ideal) (iblk m c 3 t) i = iblk m c 3 t (ix3 0 (i 0) (i 1)) := by pointwise [k0_pay3]
  have p4 (i : S512x128.Idx) : k0_pay4 (F := Ideal) (iblk m c 4 t) i = iblk m c 4 t (ix3 0 (i 0) (i 1)) := by pointwise [k0_pay4]
  have p5 (i : S512x128.Idx) : k0_pay5 (F := Ideal) (iblk m c 5 t) i = iblk m c 5 t (ix3 0 (i 0) (i 1)) := by pointwise [k0_pay5]
  constructor
  · intro i k h0 h1 h h2
    obtain ⟨x, x0, x1, x2⟩ := hk i
    rw [p3, blkcos m c t _ x x0 x1 x2]
    exact hcos_at _ _ _ (by omega) (by omega) (by omega) (by omega)
  · intro i h
    obtain ⟨x, x0, x1, x2⟩ := hk i
    rw [p3, blkcos m c t _ x x0 x1 x2]
    exact hcos_one _ _ (by omega)
  · intro i k h0 h1 h h2
    obtain ⟨x, x0, x1, x2⟩ := hk i
    rw [p4, blkneg m c t _ x x0 x1 x2]
    exact hneg_at _ _ _ (by omega) (by omega) (by omega) (by omega)
  · intro i h
    obtain ⟨x, x0, x1, x2⟩ := hk i
    rw [p4, blkneg m c t _ x x0 x1 x2]
    exact hneg_zero _ _ (by omega)
  · intro i k h0 h1 h h' h2
    obtain ⟨x, x0, x1, x2⟩ := hk i
    rw [p5, blksin m c t _ x x0 x1 x2]
    exact hsin_at _ _ _ (by omega) (by omega) (by omega) (by omega) (by omega)
  · intro i h
    obtain ⟨x, x0, x1, x2⟩ := hk i
    rw [p5, blksin m c t _ x x0 x1 x2]
    exact hsin_zero _ _ (by omega)

/-! ## The projection, section by section of the packed weight -/

/-- What the sections' proofs take of the packed weight's block. -/
theorem wrow (c : Dev nD) (t : Fin cfg0.N) (x : S6144x1024.Idx) (y : S1024x5852.Idx)
    (h : (x 0 : ℕ) < 964 ∧ (y 1 : ℕ) = x 0 ∨ 1024 ≤ (x 0 : ℕ) ∧ (x 0 : ℕ) < 2840 ∧ (y 1 : ℕ) = x 0 - 60 ∨ 3072 ≤ (x 0 : ℕ) ∧ (y 1 : ℕ) = x 0 - 292)
    (h1 : (y 0 : ℕ) = x 1) : iblk m c 2 t x = aW m c y := (blkpack m c t x).trans (hpack_at _ x y h h1)

/-- The attention columns. -/
theorem secA (c : Dev nD) (t : Fin cfg0.N) (i : S512x1024.Idx) (j : Cert.Reference4Ideal.S8x4096x5852.Idx) (h0 : (j 0 : ℕ) = t.val / 8) (h1 : (j 1 : ℕ) = t.val % 8 * 512 + i 0) (h2 : (j 2 : ℕ) = 0 + i 1) (h : (i 1 : ℕ) < 964) :
    k0_pay7 (F := Ideal) (iblk m c 0 t) (iblk m c 1 t) (View.ld (iblk m c 2 t) (Rect.unit ![0, 0] ![1024, 1024] inb_S6144x1024_S1024x1024_0_0)) i = aY m c j := by
  have hB := wrow m c t
  generalize iblk m c 2 t = B at hB ⊢
  pointwise [k0_pay7, k0_pay6, proj]
  blk_point [iblk, V, idx t]
  exact hB _ _ (by dsimp [ix2]; omega) (by dsimp [ix2])

/-- The merge gates' first part. -/
theorem secM0 (c : Dev nD) (t : Fin cfg0.N) (i : S1x512x1024.Idx) (j : Cert.Reference4Ideal.S8x4096x5852.Idx) (h0 : (j 0 : ℕ) = t.val / 8) (h1 : (j 1 : ℕ) = t.val % 8 * 512 + i 1) (h2 : (j 2 : ℕ) = 2780 + i 2) :
    k0_pay9 (F := Ideal) (k0_pay8 (iblk m c 0 t) (iblk m c 1 t) (View.ld (iblk m c 2 t) (Rect.unit ![3072, 0] ![1024, 1024] inb_S6144x1024_S1024x1024_3072_0))) i = aY m c j := by
  have hB := wrow m c t
  generalize iblk m c 2 t = B at hB ⊢
  pointwise [k0_pay9, k0_pay8, k0_pay6, proj]
  blk_point [iblk, V, idx t]
  exact hB _ _ (by dsimp [ix2]; omega) (by dsimp [ix2])

/-- The native attention's queries. -/
theorem secQ (c : Dev nD) (t : Fin cfg0.N) (i : S512x512.Idx) (j : Cert.Reference4Ideal.S8x4096x5852.Idx) (h0 : (j 0 : ℕ) = t.val / 8) (h1 : (j 1 : ℕ) = t.val % 8 * 512 + i 0) (h2 : (j 2 : ℕ) = 1476 + i 1) :
    k0_pay44 (F := Ideal) (k0_pay6 (iblk m c 0 t) (iblk m c 1 t)) (View.ld (iblk m c 2 t) (Rect.unit ![1536, 0] ![512, 1024] inb_S6144x1024_S512x1024_1536_0)) i = aY m c j := by
  have hB := wrow m c t
  generalize iblk m c 2 t = B at hB ⊢
  pointwise [k0_pay44, k0_pay6, proj]
  blk_point [iblk, V, idx t]
  exact hB _ _ (by dsimp [ix2]; omega) (by dsimp [ix2])

/-- The merge gates' second part. -/
theorem secM1 (c : Dev nD) (t : Fin cfg0.N) (i : S1x512x1024.Idx) (j : Cert.Reference4Ideal.S8x4096x5852.Idx) (h0 : (j 0 : ℕ) = t.val / 8) (h1 : (j 1 : ℕ) = t.val % 8 * 512 + i 1) (h2 : (j 2 : ℕ) = 3804 + i 2) :
    k0_pay45 (F := Ideal) (k0_pay6 (iblk m c 0 t) (iblk m c 1 t)) (View.ld (iblk m c 2 t) (Rect.unit ![4096, 0] ![1024, 1024] inb_S6144x1024_S1024x1024_4096_0)) i = aY m c j := by
  have hB := wrow m c t
  generalize iblk m c 2 t = B at hB ⊢
  pointwise [k0_pay45, k0_pay6, proj]
  blk_point [iblk, V, idx t]
  exact hB _ _ (by dsimp [ix2]; omega) (by dsimp [ix2])

/-- The native attention's keys, values and gates. -/
theorem secK (c : Dev nD) (t : Fin cfg0.N) (i : S512x1024.Idx) (j : Cert.Reference4Ideal.S8x4096x5852.Idx) (h0 : (j 0 : ℕ) = t.val / 8) (h1 : (j 1 : ℕ) = t.val % 8 * 512 + i 0) (h2 : (j 2 : ℕ) = 1988 + i 1) (h : (i 1 : ℕ) < 792) :
    k0_pay60 (F := Ideal) (k0_pay6 (iblk m c 0 t) (iblk m c 1 t)) (View.ld (iblk m c 2 t) (Rect.unit ![2048, 0] ![1024, 1024] inb_S6144x1024_S1024x1024_2048_0)) i = aY m c j := by
  have hB := wrow m c t
  generalize iblk m c 2 t = B at hB ⊢
  pointwise [k0_pay60, k0_pay6, proj]
  blk_point [iblk, V, idx t]
  exact hB _ _ (by dsimp [ix2]; omega) (by dsimp [ix2])

/-- The merge gates' third part. -/
theorem secM2 (c : Dev nD) (t : Fin cfg0.N) (i : S1x512x1024.Idx) (j : Cert.Reference4Ideal.S8x4096x5852.Idx) (h0 : (j 0 : ℕ) = t.val / 8) (h1 : (j 1 : ℕ) = t.val % 8 * 512 + i 1) (h2 : (j 2 : ℕ) = 4828 + i 2) :
    k0_pay61 (F := Ideal) (k0_pay6 (iblk m c 0 t) (iblk m c 1 t)) (View.ld (iblk m c 2 t) (Rect.unit ![5120, 0] ![1024, 1024] inb_S6144x1024_S1024x1024_5120_0)) i = aY m c j := by
  have hB := wrow m c t
  generalize iblk m c 2 t = B at hB ⊢
  pointwise [k0_pay61, k0_pay6, proj]
  blk_point [iblk, V, idx t]
  exact hB _ _ (by dsimp [ix2]; omega) (by dsimp [ix2])

/-- The pooling columns. -/
theorem secB (c : Dev nD) (t : Fin cfg0.N) (i : S1x512x512.Idx) (j : Cert.Reference4Ideal.S8x4096x5852.Idx) (h0 : (j 0 : ℕ) = t.val / 8) (h1 : (j 1 : ℕ) = t.val % 8 * 512 + i 1) (h2 : (j 2 : ℕ) = 964 + i 2) :
    k0_pay62 (F := Ideal) (k0_pay6 (iblk m c 0 t) (iblk m c 1 t)) (View.ld (iblk m c 2 t) (Rect.unit ![1024, 0] ![512, 1024] inb_S6144x1024_S512x1024_1024_0)) i = aY m c j := by
  have hB := wrow m c t
  generalize iblk m c 2 t = B at hB ⊢
  pointwise [k0_pay62, k0_pay6, proj]
  blk_point [iblk, V, idx t]
  exact hB _ _ (by dsimp [ix2]; omega) (by dsimp [ix2])

/-- Past the attention columns there is nothing. -/
theorem secA_zero (c : Dev nD) (t : Fin cfg0.N) (i : S512x1024.Idx) (h : 964 ≤ (i 1 : ℕ)) :
    k0_pay7 (F := Ideal) (iblk m c 0 t) (iblk m c 1 t) (View.ld (iblk m c 2 t) (Rect.unit ![0, 0] ![1024, 1024] inb_S6144x1024_S1024x1024_0_0)) i = (0 : EReal) := by
  have hi : (i 1 : ℕ) < 1024 := (i 1).isLt
  have hB : ∀ x : S6144x1024.Idx, 964 ≤ (x 0 : ℕ) ∧ (x 0 : ℕ) < 1024 → iblk m c 2 t x = (0 : EReal) := fun x hx => (blkpack m c t x).trans (hpack_zero _ x hx)
  generalize iblk m c 2 t = B at hB ⊢
  pointwise [k0_pay7]
  refine Finset.sum_eq_zero fun x _ => ?_
  rw [hB _ (by dsimp [ix2]; omega), mul_zero]
end

end Cert.Proof.Input
end
-- ==== Proof.InputHeads.lean ====
module

public import proofs.«01_k».proof.Proof.InputHost

@[expose] public section

set_option maxRecDepth 16384

noncomputable section

namespace Cert.Proof.Input

open Idealize.ShloMosaic Idealize.ShloMosaic.TcCoe Idealize.SL.Sem
open Idealize.ShloMosaic.Pipeline (Dat)

section
open Cert.Kernel4Ideal Cert.Kernel4Ideal.Gen

variable (m : (ℓ : Loc nD τ sig) → Buf (Elt Ideal) ℓ)

/-- Eight heads on the lanes, in the units of the exponential's base two. -/
def wide (Ct Sa Sb : FVec Ideal S512x128 .f32) (Q : FVec Ideal S512x512 .f32) : FVec Ideal S512x512 .f32 :=
  mulf (concatenate S512x512 1 [⟨S512x128, lanes (extractStridedSlice S512x128 ![0, 0] Q slices_S512x512_o0_0_S512x128) Ct Sa Sb⟩, ⟨S512x128, lanes (extractStridedSlice S512x128 ![0, 128] Q slices_S512x512_o0_128_S512x128) Ct Sa Sb⟩, ⟨S512x128, lanes (extractStridedSlice S512x128 ![0, 256] Q slices_S512x512_o0_256_S512x128) Ct Sa Sb⟩, ⟨S512x128, lanes (extractStridedSlice S512x128 ![0, 384] Q slices_S512x512_o0_384_S512x128) Ct Sa Sb⟩] concatenates_S512x128_S512x128_S512x128_S512x128_S512x512_d1)
    (broadcast S512x512 (Scalar.ofBits (F := Ideal) .f32 0x3E38AA3B#32))

theorem wide_at (Ct Sa Sb : FVec Ideal S512x128 .f32) (Q : FVec Ideal S512x512 .f32) (Z : FVec Ideal Cert.Reference4Ideal.S8x4096x512 .f32) (C S : FVec Ideal Cert.Reference4Ideal.S8x4096x8 .f32)
    (b r : ℕ) (T : Tables Ct Sa Sb C S b r)
    (hQ : ∀ (i : S512x512.Idx) (j : Cert.Reference4Ideal.S8x4096x512.Idx), (j 0 : ℕ) = b → (j 1 : ℕ) = r + i 0 → (j 2 : ℕ) = i 1 → Q i = Z j)
    (i : S512x512.Idx) (j : Cert.Reference4Ideal.S8x8x4096x64.Idx) (h0 : (j 0 : ℕ) = b) (h1 : (j 1 : ℕ) = (i 1 : ℕ) / 64) (h2 : (j 2 : ℕ) = r + i 0) (h3 : (j 3 : ℕ) = (i 1 : ℕ) % 64) :
    wide Ct Sa Sb Q i = scaled (heads8 Z C S) j := by
  have hi : (i 1 : ℕ) < 512 := (i 1).isLt
  pointwise [wide, scaled, heads8]
  refine congrArg (fun z : EReal => z * _) ?_
  by_cases a0 : (i 1 : ℕ) < 128
  · rw [dif_pos a0]
    exact lanes_at8 _ Ct Sa Sb _ C S b r 0 T
      (by
        intro i' j' g0 g1 g2 g3
        have hi' : (i' 1 : ℕ) < 128 := (i' 1).isLt
        pointwise []
        exact hQ _ _ (by dsimp [ix2, ix3]; omega) (by dsimp [ix2, ix3]; omega) (by dsimp [ix2, ix3]; omega))
      _ _ (by dsimp [ix2, ix3, ix4]; omega) (by dsimp [ix2, ix3, ix4]; omega) (by dsimp [ix2, ix3, ix4]; omega) (by dsimp [ix2, ix3, ix4]; omega)
  rw [dif_neg a0]
  by_cases a1 : (i 1 : ℕ) - 128 < 128
  · rw [dif_pos a1]
    exact lanes_at8 _ Ct Sa Sb _ C S b r 2 T
      (by
        intro i' j' g0 g1 g2 g3
        have hi' : (i' 1 : ℕ) < 128 := (i' 1).isLt
        pointwise []
        exact hQ _ _ (by dsimp [ix2, ix3]; omega) (by dsimp [ix2, ix3]; omega) (by dsimp [ix2, ix3]; omega))
      _ _ (by dsimp [ix2, ix3, ix4]; omega) (by dsimp [ix2, ix3, ix4]; omega) (by dsimp [ix2, ix3, ix4]; omega) (by dsimp [ix2, ix3, ix4]; omega)
  rw [dif_neg a1]
  by_cases a2 : (i 1 : ℕ) - 128 - 128 < 128
  · rw [dif_pos a2]
    exact lanes_at8 _ Ct Sa Sb _ C S b r 4 T
      (by
        intro i' j' g0 g1 g2 g3
        have hi' : (i' 1 : ℕ) < 128 := (i' 1).isLt
        pointwise []
        exact hQ _ _ (by dsimp [ix2, ix3]; omega) (by dsimp [ix2, ix3]; omega) (by dsimp [ix2, ix3]; omega))
      _ _ (by dsimp [ix2, ix3, ix4]; omega) (by dsimp [ix2, ix3, ix4]; omega) (by dsimp [ix2, ix3, ix4]; omega) (by dsimp [ix2, ix3, ix4]; omega)
  rw [dif_neg a2]
  exact lanes_at8 _ Ct Sa Sb _ C S b r 6 T
    (by
      intro i' j' g0 g1 g2 g3
      have hi' : (i' 1 : ℕ) < 128 := (i' 1).isLt
      pointwise []
      exact hQ _ _ (by dsimp [ix2, ix3]; omega) (by dsimp [ix2, ix3]; omega) (by dsimp [ix2, ix3]; omega))
    _ _ (by dsimp [ix2, ix3, ix4]; omega) (by dsimp [ix2, ix3, ix4]; omega) (by dsimp [ix2, ix3, ix4]; omega) (by dsimp [ix2, ix3, ix4]; omega)

/-- Four heads on the lanes, scaled. -/
def pair (Ct Sa Sb : FVec Ideal S512x128 .f32) (Q : FVec Ideal S512x256 .f32) : FVec Ideal S512x256 .f32 :=
  mulf (concatenate S512x256 1 [⟨S512x128, lanes (extractStridedSlice S512x128 ![0, 0] Q slices_S512x256_o0_0_S512x128) Ct Sa Sb⟩, ⟨S512x128, lanes (extractStridedSlice S512x128 ![0, 128] Q slices_S512x256_o0_128_S512x128) Ct Sa Sb⟩] concatenates_S512x128_S512x128_S512x256_d1)
    (broadcast S512x256 (Scalar.ofBits (F := Ideal) .f32 0x3E000000#32))

theorem pair_at (Ct Sa Sb : FVec Ideal S512x128 .f32) (Q : FVec Ideal S512x256 .f32) (Z : FVec Ideal Cert.Reference4Ideal.S8x4096x256 .f32) (C S : FVec Ideal Cert.Reference4Ideal.S8x4096x8 .f32)
    (b r : ℕ) (T : Tables Ct Sa Sb C S b r)
    (hQ : ∀ (i : S512x256.Idx) (j : Cert.Reference4Ideal.S8x4096x256.Idx), (j 0 : ℕ) = b → (j 1 : ℕ) = r + i 0 → (j 2 : ℕ) = i 1 → Q i = Z j)
    (i : S512x256.Idx) (j : Cert.Reference4Ideal.S8x4x4096x64.Idx) (h0 : (j 0 : ℕ) = b) (h1 : (j 1 : ℕ) = (i 1 : ℕ) / 64) (h2 : (j 2 : ℕ) = r + i 0) (h3 : (j 3 : ℕ) = (i 1 : ℕ) % 64) :
    pair Ct Sa Sb Q i = (mulf (heads4 Z C S) (broadcastInDim Cert.Reference4Ideal.S8x4x4096x64 ![] Cert.Reference4Ideal.Gen.bcast_S_S8x4x4096x64 (constant Cert.Reference4Ideal.S_ .f32 0x3E000000#32)) : FVec Ideal Cert.Reference4Ideal.S8x4x4096x64 .f32) j := by
  have hi : (i 1 : ℕ) < 256 := (i 1).isLt
  pointwise [pair, heads4]
  refine congrArg (fun z : EReal => z * _) ?_
  by_cases a0 : (i 1 : ℕ) < 128
  · rw [dif_pos a0]
    exact lanes_at4 _ Ct Sa Sb _ C S b r 0 T
      (by
        intro i' j' g0 g1 g2 g3
        have hi' : (i' 1 : ℕ) < 128 := (i' 1).isLt
        pointwise []
        exact hQ _ _ (by dsimp [ix2, ix3]; omega) (by dsimp [ix2, ix3]; omega) (by dsimp [ix2, ix3]; omega))
      _ _ (by dsimp [ix2, ix3, ix4]; omega) (by dsimp [ix2, ix3, ix4]; omega) (by dsimp [ix2, ix3, ix4]; omega) (by dsimp [ix2, ix3, ix4]; omega)
  rw [dif_neg a0]
  exact lanes_at4 _ Ct Sa Sb _ C S b r 2 T
    (by
      intro i' j' g0 g1 g2 g3
      have hi' : (i' 1 : ℕ) < 128 := (i' 1).isLt
      pointwise []
      exact hQ _ _ (by dsimp [ix2, ix3]; omega) (by dsimp [ix2, ix3]; omega) (by dsimp [ix2, ix3]; omega))
    _ _ (by dsimp [ix2, ix3, ix4]; omega) (by dsimp [ix2, ix3, ix4]; omega) (by dsimp [ix2, ix3, ix4]; omega) (by dsimp [ix2, ix3, ix4]; omega)

theorem two_at (Q Ct Sa Sb : FVec Ideal S512x128 .f32) (Z : FVec Ideal Cert.Reference4Ideal.S8x4096x128 .f32) (C S : FVec Ideal Cert.Reference4Ideal.S8x4096x8 .f32)
    (b r : ℕ) (T : Tables Ct Sa Sb C S b r)
    (hQ : ∀ (i : S512x128.Idx) (j : Cert.Reference4Ideal.S8x4096x128.Idx), (j 0 : ℕ) = b → (j 1 : ℕ) = r + i 0 → (j 2 : ℕ) = i 1 → Q i = Z j)
    (i : S512x128.Idx) (j : Cert.Reference4Ideal.S8x2x4096x64.Idx) (h0 : (j 0 : ℕ) = b) (h1 : (j 1 : ℕ) = (i 1 : ℕ) / 64) (h2 : (j 2 : ℕ) = r + i 0) (h3 : (j 3 : ℕ) = (i 1 : ℕ) % 64) :
    lanes Q Ct Sa Sb i = heads2 Z C S j := by
  have hi : (i 1 : ℕ) < 128 := (i 1).isLt
  pointwise [heads2]
  exact lanes_at2 _ Ct Sa Sb _ C S b r 0 T
    (by
      intro i' j' g0 g1 g2 g3
      have hi' : (i' 1 : ℕ) < 128 := (i' 1).isLt
      pointwise []
      exact hQ _ _ (by dsimp [ix2, ix3]; omega) (by dsimp [ix2, ix3]; omega) (by dsimp [ix2, ix3]; omega))
    _ _ (by dsimp [ix2, ix3, ix4]; omega) (by dsimp [ix2, ix3, ix4]; omega) (by dsimp [ix2, ix3, ix4]; omega) (by dsimp [ix2, ix3, ix4]; omega)

/-! The queries and keys of the body as heads on the lanes. -/

theorem pay10_eq (Ct Sa Sb : FVec Ideal S512x128 .f32) (A : FVec Ideal S512x1024 .f32) :
    k0_pay10 Ct Sa Sb A = wide Ct Sa Sb (extractStridedSlice S512x512 ![0, 0] A slices_S512x1024_o0_0_S512x512) := rfl
theorem pay50_eq (Ct Sa Sb : FVec Ideal S512x128 .f32) (G : FVec Ideal S512x1024 .bf16) (W : Vec Ideal S512x1024 .bf16) :
    k0_pay50 Ct Sa Sb (k0_pay44 G W) (k0_pay46 Ct Sa Sb G W) (k0_pay47 Ct Sa Sb G W) (k0_pay48 G W) (k0_pay49 Ct Sa G W) = wide Ct Sa Sb (k0_pay44 G W) := rfl
theorem pay35_eq (Ct Sa Sb : FVec Ideal S512x128 .f32) (A : FVec Ideal S512x1024 .f32) :
    k0_pay35 Sb (k0_pay31 Ct Sa Sb A) (k0_pay33 Ct Sa A) (k0_pay34 A) = pair Ct Sa Sb (k0_pay30 A) := rfl

end
end Cert.Proof.Input
-- ==== Proof.InputCores.lean ====
module

public import proofs.«01_k».proof.Proof.InputHeads

@[expose] public section

set_option maxRecDepth 16384

noncomputable section

namespace Cert.Proof.Input

open Idealize.ShloMosaic Idealize.ShloMosaic.TcCoe Idealize.SL.Sem
open Idealize.ShloMosaic.Pipeline (Dat)

section
open Cert.Kernel4Ideal Cert.Kernel4Ideal.Gen

variable (m : (ℓ : Loc nD τ sig) → Buf (Elt Ideal) ℓ)

theorem core8 (Ct Sa Sb : FVec Ideal S512x128 .f32) (C S : FVec Ideal Cert.Reference4Ideal.S8x4096x8 .f32) (A : FVec Ideal S512x1024 .f32) (Y : FVec Ideal Cert.Reference4Ideal.S8x4096x5852 .f32) (b r : ℕ) (T : Tables Ct Sa Sb C S b r)
    (hA : ∀ (i : S512x1024.Idx) (j : Cert.Reference4Ideal.S8x4096x5852.Idx), (j 0 : ℕ) = b → (j 1 : ℕ) = r + i 0 → (j 2 : ℕ) = 0 + i 1 → (i 1 : ℕ) < 964 → A i = Y j)
    (i : S512x512.Idx) (j : Cert.Reference4Ideal.S8x8x4096x64.Idx) (h0 : (j 0 : ℕ) = b) (h1 : (j 1 : ℕ) = (i 1 : ℕ) / 64) (h2 : (j 2 : ℕ) = r + i 0) (h3 : (j 3 : ℕ) = (i 1 : ℕ) % 64) :
    k0_pay10 Ct Sa Sb A i = res8 Y C S j := by
  rw [pay10_eq]
  refine wide_at _ _ _ _ _ _ _ b r T (fun i' j' g0 g1 g2 => ?_) _ _ h0 h1 h2 h3
  have hi' : (i' 1 : ℕ) < 512 := (i' 1).isLt
  pointwise []
  exact hA _ _ (by dsimp [ix2, ix3, ix4, ix5]; omega) (by dsimp [ix2, ix3, ix4, ix5]; omega) (by dsimp [ix2, ix3, ix4, ix5]; omega) (by dsimp [ix2, ix3, ix4, ix5]; omega)

theorem core9 (Ct Sa Sb : FVec Ideal S512x128 .f32) (C S : FVec Ideal Cert.Reference4Ideal.S8x4096x8 .f32) (A : FVec Ideal S512x1024 .f32) (g : Vec Ideal S1x128 .f32) (u : Vec Ideal S128x128 .bf16) (Y : FVec Ideal Cert.Reference4Ideal.S8x4096x5852 .f32) (K : FVec Ideal Cert.Reference4Ideal.S128 .f32) (U : FVec Ideal Cert.Reference4Ideal.S128x128 .f32) (b r : ℕ) (T : Tables Ct Sa Sb C S b r)
    (hB : ∀ (i : S512x128.Idx) (j : Cert.Reference4Ideal.S8x4096x128.Idx), (j 0 : ℕ) = b → (j 1 : ℕ) = r + i 0 → (j 2 : ℕ) = i 1 → k0_pay21 A g u i = keyval Y K U j)
    (y : S1x512x64.Idx) (j : Cert.Reference4Ideal.S8x4096x64.Idx) (h0 : (j 0 : ℕ) = b) (h1 : (j 1 : ℕ) = r + y 1) (h2 : (j 2 : ℕ) = y 2) :
    k0_pay22 Ct Sa Sb A g u y = res9 Y C S K U j := by
  have hy : (y 2 : ℕ) < 64 := (y 2).isLt
  have e : k0_pay22 Ct Sa Sb A g u = shapeCast S1x512x64 (truncf .bf16 (extractStridedSlice S512x64 ![0, 0] (lanes (k0_pay21 A g u) Ct Sa Sb) slices_S512x128_o0_0_S512x64) bitsLt_bf16_f32) shapeCasts_S512x64_S1x512x64 := rfl
  rw [e]
  generalize k0_pay21 A g u = B at hB ⊢
  pointwise [res9]
  refine lanes_at0 _ _ _ _ _ _ _ b r T (fun i' j' g0 g1 g2 g3 => ?_) _ _ (by dsimp [ix2, ix3, ix4, ix5]; omega) (by dsimp [ix2, ix3, ix4, ix5]; omega) (by dsimp [ix2, ix3, ix4, ix5]; omega) (by dsimp [ix2, ix3, ix4, ix5]; omega)
  pointwise []
  exact hB _ _ (by dsimp [ix2, ix3, ix4, ix5]; omega) (by dsimp [ix2, ix3, ix4, ix5]; omega) (by dsimp [ix2, ix3, ix4, ix5]; omega)

theorem core11 (Ct Sa Sb : FVec Ideal S512x128 .f32) (C S : FVec Ideal Cert.Reference4Ideal.S8x4096x8 .f32) (A : FVec Ideal S512x1024 .f32) (Y : FVec Ideal Cert.Reference4Ideal.S8x4096x5852 .f32) (b r : ℕ) (T : Tables Ct Sa Sb C S b r)
    (hA : ∀ (i : S512x1024.Idx) (j : Cert.Reference4Ideal.S8x4096x5852.Idx), (j 0 : ℕ) = b → (j 1 : ℕ) = r + i 0 → (j 2 : ℕ) = 0 + i 1 → (i 1 : ℕ) < 964 → A i = Y j)
    (i : S512x256.Idx) (j : Cert.Reference4Ideal.S8x4x4096x64.Idx) (h0 : (j 0 : ℕ) = b) (h1 : (j 1 : ℕ) = (i 1 : ℕ) / 64) (h2 : (j 2 : ℕ) = r + i 0) (h3 : (j 3 : ℕ) = (i 1 : ℕ) % 64) :
    pair Ct Sa Sb (k0_pay30 A) i = res11 Y C S j := by
  refine pair_at _ _ _ _ _ _ _ b r T (fun i' j' g0 g1 g2 => ?_) _ _ h0 h1 h2 h3
  have hi' : (i' 1 : ℕ) < 256 := (i' 1).isLt
  pointwise [k0_pay30]
  exact hA _ _ (by dsimp [ix2, ix3, ix4, ix5]; omega) (by dsimp [ix2, ix3, ix4, ix5]; omega) (by dsimp [ix2, ix3, ix4, ix5]; omega) (by dsimp [ix2, ix3, ix4, ix5]; omega)

theorem core12 (Ct Sa Sb : FVec Ideal S512x128 .f32) (C S : FVec Ideal Cert.Reference4Ideal.S8x4096x8 .f32) (A : FVec Ideal S512x1024 .f32) (Y : FVec Ideal Cert.Reference4Ideal.S8x4096x5852 .f32) (b r : ℕ) (T : Tables Ct Sa Sb C S b r)
    (hA : ∀ (i : S512x1024.Idx) (j : Cert.Reference4Ideal.S8x4096x5852.Idx), (j 0 : ℕ) = b → (j 1 : ℕ) = r + i 0 → (j 2 : ℕ) = 0 + i 1 → (i 1 : ℕ) < 964 → A i = Y j)
    (y : S1x512x64.Idx) (j : Cert.Reference4Ideal.S8x4096x64.Idx) (h0 : (j 0 : ℕ) = b) (h1 : (j 1 : ℕ) = r + y 1) (h2 : (j 2 : ℕ) = y 2) :
    k0_pay42 (k0_pay41 Ct Sa Sb A) y = res12 Y C S j := by
  have hy : (y 2 : ℕ) < 64 := (y 2).isLt
  have e : k0_pay42 (k0_pay41 Ct Sa Sb A) = shapeCast S1x512x64 (truncf .bf16 (extractStridedSlice S512x64 ![0, 0] (lanes (k0_pay40 A) Ct Sa Sb) slices_S512x128_o0_0_S512x64) bitsLt_bf16_f32) shapeCasts_S512x64_S1x512x64 := rfl
  rw [e]
  pointwise [res12]
  refine lanes_at0 _ _ _ _ _ _ _ b r T (fun i' j' g0 g1 g2 g3 => ?_) _ _ (by dsimp [ix2, ix3, ix4, ix5]; omega) (by dsimp [ix2, ix3, ix4, ix5]; omega) (by dsimp [ix2, ix3, ix4, ix5]; omega) (by dsimp [ix2, ix3, ix4, ix5]; omega)
  pointwise [k0_pay40]
  exact hA _ _ (by dsimp [ix2, ix3, ix4, ix5]; omega) (by dsimp [ix2, ix3, ix4, ix5]; omega) (by dsimp [ix2, ix3, ix4, ix5]; omega) (by dsimp [ix2, ix3, ix4, ix5]; omega)

theorem core13 (A : FVec Ideal S512x1024 .f32) (Y : FVec Ideal Cert.Reference4Ideal.S8x4096x5852 .f32) (b r : ℕ) (hA : ∀ (i : S512x1024.Idx) (j : Cert.Reference4Ideal.S8x4096x5852.Idx), (j 0 : ℕ) = b → (j 1 : ℕ) = r + i 0 → (j 2 : ℕ) = 0 + i 1 → (i 1 : ℕ) < 964 → A i = Y j)
    (hz : ∀ i : S512x1024.Idx, 964 ≤ (i 1 : ℕ) → A i = (0 : EReal))
    (y : S1x8x512.Idx) (j : Cert.Reference4Ideal.S8x8x4096.Idx) (h0 : (j 0 : ℕ) = b) (h1 : (j 1 : ℕ) = y 1) (h2 : (j 2 : ℕ) = r + y 2) :
    k0_pay43 (k0_pay40 A) y = res13 Y j := by
  have hy : (y 1 : ℕ) < 8 := (y 1).isLt
  pointwise [k0_pay43, k0_pay40, res13]
  by_cases a : (j 1 : ℕ) < 4
  · rw [dif_pos a]
    exact hA _ _ (by dsimp [ix2, ix3, ix4, ix5]; omega) (by dsimp [ix2, ix3, ix4, ix5]; omega) (by dsimp [ix2, ix3, ix4, ix5]; omega) (by dsimp [ix2, ix3, ix4, ix5]; omega)
  · rw [dif_neg a]
    refine (hz _ (by dsimp [ix2, ix3, ix4, ix5]; omega)).trans ?_
    show (0 : EReal) = (((0#32 : BitVec 32).toInt : ℝ) : EReal)
    simp

theorem core14 (Ct Sa Sb : FVec Ideal S512x128 .f32) (C S : FVec Ideal Cert.Reference4Ideal.S8x4096x8 .f32) (Q : FVec Ideal S512x512 .f32) (Y : FVec Ideal Cert.Reference4Ideal.S8x4096x5852 .f32) (b r : ℕ) (T : Tables Ct Sa Sb C S b r)
    (hQ : ∀ (i : S512x512.Idx) (j : Cert.Reference4Ideal.S8x4096x5852.Idx), (j 0 : ℕ) = b → (j 1 : ℕ) = r + i 0 → (j 2 : ℕ) = 1476 + i 1 → Q i = Y j)
    (i : S512x512.Idx) (j : Cert.Reference4Ideal.S8x8x4096x64.Idx) (h0 : (j 0 : ℕ) = b) (h1 : (j 1 : ℕ) = (i 1 : ℕ) / 64) (h2 : (j 2 : ℕ) = r + i 0) (h3 : (j 3 : ℕ) = (i 1 : ℕ) % 64) :
    wide Ct Sa Sb Q i = res14 Y C S j := by
  refine wide_at _ _ _ _ _ _ _ b r T (fun i' j' g0 g1 g2 => ?_) _ _ h0 h1 h2 h3
  have hi' : (i' 1 : ℕ) < 512 := (i' 1).isLt
  pointwise []
  exact hQ _ _ (by dsimp [ix2, ix3, ix4, ix5]; omega) (by dsimp [ix2, ix3, ix4, ix5]; omega) (by dsimp [ix2, ix3, ix4, ix5]; omega)

theorem core15 (Ct Sa Sb : FVec Ideal S512x128 .f32) (C S : FVec Ideal Cert.Reference4Ideal.S8x4096x8 .f32) (K : FVec Ideal S512x1024 .f32) (Y : FVec Ideal Cert.Reference4Ideal.S8x4096x5852 .f32) (b r : ℕ) (T : Tables Ct Sa Sb C S b r)
    (hK : ∀ (i : S512x1024.Idx) (j : Cert.Reference4Ideal.S8x4096x5852.Idx), (j 0 : ℕ) = b → (j 1 : ℕ) = r + i 0 → (j 2 : ℕ) = 1988 + i 1 → (i 1 : ℕ) < 792 → K i = Y j)
    (i : S512x128.Idx) (j : Cert.Reference4Ideal.S8x2x4096x64.Idx) (h0 : (j 0 : ℕ) = b) (h1 : (j 1 : ℕ) = (i 1 : ℕ) / 64) (h2 : (j 2 : ℕ) = r + i 0) (h3 : (j 3 : ℕ) = (i 1 : ℕ) % 64) :
    k0_pay69 Ct Sa Sb (k0_pay68 K) i = res15 Y C S j := by
  have e : k0_pay69 Ct Sa Sb (k0_pay68 K) = lanes (k0_pay68 K) Ct Sa Sb := rfl
  rw [e]
  refine two_at _ _ _ _ _ _ _ b r T (fun i' j' g0 g1 g2 => ?_) _ _ h0 h1 h2 h3
  have hi' : (i' 1 : ℕ) < 128 := (i' 1).isLt
  pointwise [k0_pay68]
  exact hK _ _ (by dsimp [ix2, ix3, ix4, ix5]; omega) (by dsimp [ix2, ix3, ix4, ix5]; omega) (by dsimp [ix2, ix3, ix4, ix5]; omega) (by dsimp [ix2, ix3, ix4, ix5]; omega)

theorem core16 (Ct Sa Sb : FVec Ideal S512x128 .f32) (C S : FVec Ideal Cert.Reference4Ideal.S8x4096x8 .f32) (K : FVec Ideal S512x1024 .f32) (Y : FVec Ideal Cert.Reference4Ideal.S8x4096x5852 .f32) (b r : ℕ) (T : Tables Ct Sa Sb C S b r)
    (hK : ∀ (i : S512x1024.Idx) (j : Cert.Reference4Ideal.S8x4096x5852.Idx), (j 0 : ℕ) = b → (j 1 : ℕ) = r + i 0 → (j 2 : ℕ) = 1988 + i 1 → (i 1 : ℕ) < 792 → K i = Y j)
    (i : S512x128.Idx) (j : Cert.Reference4Ideal.S8x2x4096x64.Idx) (h0 : (j 0 : ℕ) = b) (h1 : (j 1 : ℕ) = (i 1 : ℕ) / 64) (h2 : (j 2 : ℕ) = r + i 0) (h3 : (j 3 : ℕ) = (i 1 : ℕ) % 64) :
    k0_pay88 Ct Sa Sb K i = res16 Y C S j := by
  have e : k0_pay88 Ct Sa Sb K = lanes (extractStridedSlice S512x128 ![0, 512] K slices_S512x1024_o0_512_S512x128) Ct Sa Sb := rfl
  rw [e]
  refine two_at _ _ _ _ _ _ _ b r T (fun i' j' g0 g1 g2 => ?_) _ _ h0 h1 h2 h3
  have hi' : (i' 1 : ℕ) < 128 := (i' 1).isLt
  pointwise [k0_pay68]
  exact hK _ _ (by dsimp [ix2, ix3, ix4, ix5]; omega) (by dsimp [ix2, ix3, ix4, ix5]; omega) (by dsimp [ix2, ix3, ix4, ix5]; omega) (by dsimp [ix2, ix3, ix4, ix5]; omega)

theorem core19 (Ct Sa Sb : FVec Ideal S512x128 .f32) (C S : FVec Ideal Cert.Reference4Ideal.S8x4096x8 .f32) (K : FVec Ideal S512x1024 .f32) (Y : FVec Ideal Cert.Reference4Ideal.S8x4096x5852 .f32) (b r : ℕ) (T : Tables Ct Sa Sb C S b r)
    (hK : ∀ (i : S512x1024.Idx) (j : Cert.Reference4Ideal.S8x4096x5852.Idx), (j 0 : ℕ) = b → (j 1 : ℕ) = r + i 0 → (j 2 : ℕ) = 1988 + i 1 → (i 1 : ℕ) < 792 → K i = Y j)
    (i : S512x256.Idx) (j : Cert.Reference4Ideal.S8x4x4096x64.Idx) (h0 : (j 0 : ℕ) = b) (h1 : (j 1 : ℕ) = (i 1 : ℕ) / 64) (h2 : (j 2 : ℕ) = r + i 0) (h3 : (j 3 : ℕ) = (i 1 : ℕ) % 64) :
    k0_pay63 Ct Sa Sb K i = res19 Y C S j := by
  have hi : (i 1 : ℕ) < 256 := (i 1).isLt
  have e : k0_pay63 Ct Sa Sb K = concatenate S512x256 1 [⟨S512x128, lanes (extractStridedSlice S512x128 ![0, 0] K slices_S512x1024_o0_0_S512x128) Ct Sa Sb⟩, ⟨S512x128, extractStridedSlice S512x128 ![0, 128] K slices_S512x1024_o0_128_S512x128⟩] concatenates_S512x128_S512x128_S512x256_d1 := rfl
  rw [e]
  pointwise [res19, values]
  by_cases a : (i 1 : ℕ) < 128
  · have a' : (j 1 : ℕ) < 2 := by omega
    rw [dif_pos a, dif_pos a']
    refine two_at _ _ _ _ _ _ _ b r T (fun i' j' g0 g1 g2 => ?_) _ _ (by dsimp [ix2, ix3, ix4, ix5]; omega) (by dsimp [ix2, ix3, ix4, ix5]; omega) (by dsimp [ix2, ix3, ix4, ix5]; omega) (by dsimp [ix2, ix3, ix4, ix5]; omega)
    have hi' : (i' 1 : ℕ) < 128 := (i' 1).isLt
    pointwise []
    exact hK _ _ (by dsimp [ix2, ix3, ix4, ix5]; omega) (by dsimp [ix2, ix3, ix4, ix5]; omega) (by dsimp [ix2, ix3, ix4, ix5]; omega) (by dsimp [ix2, ix3, ix4, ix5]; omega)
  · have a' : ¬ (j 1 : ℕ) < 2 := by omega
    rw [dif_neg a, dif_neg a']
    exact hK _ _ (by dsimp [ix2, ix3, ix4, ix5]; omega) (by dsimp [ix2, ix3, ix4, ix5]; omega) (by dsimp [ix2, ix3, ix4, ix5]; omega) (by dsimp [ix2, ix3, ix4, ix5]; omega)

end
end Cert.Proof.Input
-- ==== Proof.InputRows.lean ====
module

public import proofs.«01_k».proof.Proof.InputHeads

@[expose] public section

set_option maxRecDepth 16384

noncomputable section

namespace Cert.Proof.Input

open Idealize.ShloMosaic Idealize.ShloMosaic.TcCoe Idealize.SL.Sem
open Idealize.ShloMosaic.Pipeline (Dat)

section
open Cert.Kernel4Ideal Cert.Kernel4Ideal.Gen

variable (m : (ℓ : Loc nD τ sig) → Buf (Elt Ideal) ℓ)

/-- The value of a row of the value rows: of the values below 64, then a one and zeros. -/
def pick (n : ℕ) (v : EReal) : EReal := if n < 64 then v else if n = 64 then 1 else 0

theorem unitRow_at (i : Cert.Reference4Ideal.S8.Idx) : unitRow i = (if (i 0 : ℕ) = 0 then (1 : EReal) else 0) := by
  have hi : (i 0 : ℕ) < 8 := (i 0).isLt
  have e : IntOp.cmpi .eq (IntOp.addi 0#32 0#32) (BitVec.ofNat 32 (i 0 : ℕ)) = (if (i 0 : ℕ) = 0 then 1#1 else 0#1) := by
    generalize (i 0 : ℕ) = n at hi ⊢
    interval_cases n <;> rfl
  pointwise [unitRow]
  rw [e]
  split_ifs
  · show (((1#1 : BitVec 1).toNat : ℝ) : EReal) = 1
    simp
  · show (((0#1 : BitVec 1).toNat : ℝ) : EReal) = 0
    simp

theorem rows1_at (Z : FVec Ideal Cert.Reference4Ideal.S8x4096x128 .f32) (j : Cert.Reference4Ideal.S8x16x72x256.Idx) (k : Cert.Reference4Ideal.S8x4096x128.Idx) (h0 : (k 0 : ℕ) = j 0) (h1 : (k 1 : ℕ) = 256 * j 1 + j 3) (h2 : (j 2 : ℕ) < 64 → (k 2 : ℕ) = 64 + j 2) :
    rows1 Z j = pick (j 2) (Z k) := by
  have hj : (j 2 : ℕ) < 72 := (j 2).isLt
  pointwise [rows1]
  by_cases a : (j 2 : ℕ) < 64
  · rw [dif_pos a, pick, if_pos a]
    refine congrArg Z ?_
    have a' := h2 a
    blk_ext
  · rw [dif_neg a, pick, if_neg a, unitRow_at]
    refine if_congr ?_ rfl rfl
    dsimp [ix1]
    omega

theorem rows2_at (Z : FVec Ideal Cert.Reference4Ideal.S8x2x4096x64 .f32) (j : Cert.Reference4Ideal.S8x2x16x72x256.Idx) (k : Cert.Reference4Ideal.S8x2x4096x64.Idx) (h0 : (k 0 : ℕ) = j 0) (h1 : (k 1 : ℕ) = j 1) (h2 : (k 2 : ℕ) = 256 * j 2 + j 4) (h3 : (j 3 : ℕ) < 64 → (k 3 : ℕ) = j 3) :
    rows2 Z j = pick (j 3) (Z k) := by
  have hj : (j 3 : ℕ) < 72 := (j 3).isLt
  pointwise [rows2]
  by_cases a : (j 3 : ℕ) < 64
  · rw [dif_pos a, pick, if_pos a]
    refine congrArg Z ?_
    have a' := h3 a
    blk_ext
  · rw [dif_neg a, pick, if_neg a, unitRow_at]
    refine if_congr ?_ rfl rfl
    dsimp [ix1]
    omega

theorem mask_at (x : S8x256.Idx) : k0_pay25 (F := Ideal) k0_pay24 (Scalar.ofBits .f32 1065353216#32) (Scalar.ofBits .f32 0#32) x = (if (x 0 : ℕ) = 0 then (1 : EReal) else 0) := by
  have hx : (x 0 : ℕ) < 8 := (x 0).isLt
  have e : IntOp.cmpi .eq (BitVec.ofNat 32 (x 0 : ℕ)) 0#32 = (if (x 0 : ℕ) = 0 then 1#1 else 0#1) := by
    generalize (x 0 : ℕ) = n at hx ⊢
    interval_cases n <;> rfl
  pointwise [k0_pay25, k0_pay24]
  rw [e]
  split_ifs <;> rfl

end
end Cert.Proof.Input
-- ==== Proof.InputOut.lean ====
module

public import proofs.«01_k».proof.Proof.InputCores
public import proofs.«01_k».proof.Proof.InputRows

@[expose] public section

set_option maxRecDepth 16384

noncomputable section

namespace Cert.Proof.Input

open Idealize.ShloMosaic Idealize.ShloMosaic.TcCoe Idealize.SL.Sem
open Idealize.ShloMosaic.Pipeline (Dat)

section
open Cert.Kernel4Ideal Cert.Kernel4Ideal.Gen

variable (m : (ℓ : Loc nD τ sig) → Buf (Elt Ideal) ℓ)

theorem kv_at (c : Dev nD) (t : Fin cfg0.N) (i : S512x128.Idx) (j : Cert.Reference4Ideal.S8x4096x128.Idx) (h0 : (j 0 : ℕ) = t.val / 8) (h1 : (j 1 : ℕ) = t.val % 8 * 512 + i 0) (h2 : (j 2 : ℕ) = i 1) :
    k0_pay21 (k0_pay7 (F := Ideal) (iblk m c 0 t) (iblk m c 1 t) (View.ld (iblk m c 2 t) (Rect.unit ![0, 0] ![1024, 1024] inb_S6144x1024_S1024x1024_0_0))) (iblk m c 6 t) (iblk m c 7 t) i = keyval (aY m c) (aK m c) (aU m c) j := by
  have hA := secA m c t
  generalize k0_pay7 (F := Ideal) (iblk m c 0 t) (iblk m c 1 t) (View.ld (iblk m c 2 t) (Rect.unit ![0, 0] ![1024, 1024] inb_S6144x1024_S1024x1024_0_0)) = A at hA ⊢
  generalize aY m c = Y at hA ⊢
  pointwise [k0_pay21, keyval]
  blk_point [iblk, V, idx t]
  all_goals exact hA _ _ (by dsimp [ix2, ix3]; omega) (by dsimp [ix2, ix3]; omega) (by dsimp [ix2, ix3]; omega) (by dsimp [ix2, ix3]; omega)

/-! The masks of the value rows' ninth group of rows. -/

theorem pay74_eq : k0_pay74 (F := Ideal) = k0_pay25 (F := Ideal) k0_pay24 (Scalar.ofBits .f32 1065353216#32) (Scalar.ofBits .f32 0#32) := rfl
theorem pay81_eq : k0_pay81 (F := Ideal) = k0_pay25 (F := Ideal) k0_pay24 (Scalar.ofBits .f32 1065353216#32) (Scalar.ofBits .f32 0#32) := rfl
theorem pay93_eq : k0_pay93 (F := Ideal) = k0_pay25 (F := Ideal) k0_pay24 (Scalar.ofBits .f32 1065353216#32) (Scalar.ofBits .f32 0#32) := rfl
theorem pay103_eq : k0_pay103 (F := Ideal) k0_pay100 k0_pay101 k0_pay102 = k0_pay25 (F := Ideal) k0_pay24 (Scalar.ofBits .f32 1065353216#32) (Scalar.ofBits .f32 0#32) := rfl

theorem rows1_of (Z : FVec Ideal Cert.Reference4Ideal.S8x4096x128 .f32) (j : Cert.Reference4Ideal.S8x16x72x256.Idx) (k : Cert.Reference4Ideal.S8x4096x128.Idx) (n : ℕ) (hn : (j 2 : ℕ) = n) (h0 : (k 0 : ℕ) = j 0) (h1 : (k 1 : ℕ) = 256 * j 1 + j 3) (h2 : (j 2 : ℕ) < 64 → (k 2 : ℕ) = 64 + j 2) :
    rows1 Z j = pick n (Z k) := hn ▸ rows1_at Z j k h0 h1 h2
theorem rows2_of (Z : FVec Ideal Cert.Reference4Ideal.S8x2x4096x64 .f32) (j : Cert.Reference4Ideal.S8x2x16x72x256.Idx) (k : Cert.Reference4Ideal.S8x2x4096x64.Idx) (n : ℕ) (hn : (j 3 : ℕ) = n) (h0 : (k 0 : ℕ) = j 0) (h1 : (k 1 : ℕ) = j 1) (h2 : (k 2 : ℕ) = 256 * j 2 + j 4) (h3 : (j 3 : ℕ) < 64 → (k 3 : ℕ) = j 3) :
    rows2 Z j = pick n (Z k) := hn ▸ rows2_at Z j k h0 h1 h2 h3

theorem core17 (K : FVec Ideal S512x1024 .f32) (Y : FVec Ideal Cert.Reference4Ideal.S8x4096x5852 .f32) (b r : ℕ)
    (hK : ∀ (i : S512x1024.Idx) (j : Cert.Reference4Ideal.S8x4096x5852.Idx), (j 0 : ℕ) = b → (j 1 : ℕ) = r + i 0 → (j 2 : ℕ) = 1988 + i 1 → (i 1 : ℕ) < 792 → K i = Y j)
    (i : S512x1024.Idx) (k : Cert.Reference4Ideal.S8x2x4096x64.Idx) (n h : ℕ) (hh : h < 2) (h0 : (k 0 : ℕ) = b) (h1 : (k 1 : ℕ) = h) (h2 : (k 2 : ℕ) = r + i 0) (h3 : (i 1 : ℕ) = 384 + 64 * h + k 3) :
    pick n (K i) = pick n (values (extractStridedSlice Cert.Reference4Ideal.S8x4096x256 ![0, 0, 2244] Y Cert.Reference4Ideal.Gen.slices_S8x4096x5852_S8x4096x256_0_0_2244) k) := by
  have hk : (k 3 : ℕ) < 64 := (k 3).isLt
  pointwise [values]
  refine congrArg (pick n) ?_
  exact hK _ _ (by dsimp [ix2, ix3, ix4, ix5]; omega) (by dsimp [ix2, ix3, ix4, ix5]; omega) (by dsimp [ix2, ix3, ix4, ix5]; omega) (by dsimp [ix2, ix3, ix4, ix5]; omega)

theorem core18 (K : FVec Ideal S512x1024 .f32) (Y : FVec Ideal Cert.Reference4Ideal.S8x4096x5852 .f32) (b r : ℕ)
    (hK : ∀ (i : S512x1024.Idx) (j : Cert.Reference4Ideal.S8x4096x5852.Idx), (j 0 : ℕ) = b → (j 1 : ℕ) = r + i 0 → (j 2 : ℕ) = 1988 + i 1 → (i 1 : ℕ) < 792 → K i = Y j)
    (i : S512x1024.Idx) (k : Cert.Reference4Ideal.S8x2x4096x64.Idx) (n h : ℕ) (hh : h < 2) (h0 : (k 0 : ℕ) = b) (h1 : (k 1 : ℕ) = h) (h2 : (k 2 : ℕ) = r + i 0) (h3 : (i 1 : ℕ) = 640 + 64 * h + k 3) :
    pick n (K i) = pick n (values (extractStridedSlice Cert.Reference4Ideal.S8x4096x256 ![0, 0, 2500] Y Cert.Reference4Ideal.Gen.slices_S8x4096x5852_S8x4096x256_0_0_2500) k) := by
  have hk : (k 3 : ℕ) < 64 := (k 3).isLt
  pointwise [values]
  refine congrArg (pick n) ?_
  exact hK _ _ (by dsimp [ix2, ix3, ix4, ix5]; omega) (by dsimp [ix2, ix3, ix4, ix5]; omega) (by dsimp [ix2, ix3, ix4, ix5]; omega) (by dsimp [ix2, ix3, ix4, ix5]; omega)

theorem mask_one (x : S8x256.Idx) : k0_pay25 (F := Ideal) k0_pay24 (1 : EReal) (0 : EReal) x = (if (x 0 : ℕ) = 0 then (1 : EReal) else 0) := by
  have hx : (x 0 : ℕ) < 8 := (x 0).isLt
  have e : IntOp.cmpi .eq (BitVec.ofNat 32 (x 0 : ℕ)) 0#32 = (if (x 0 : ℕ) = 0 then 1#1 else 0#1) := by
    generalize (x 0 : ℕ) = n at hx ⊢
    interval_cases n <;> rfl
  pointwise [k0_pay25, k0_pay24]
  rw [e]
  split_ifs <;> rfl

theorem idxo : ∀ t : Fin cfg0.N,
    win0_8.index t = ![t.val / 8, 0, t.val % 8, 0] ∧ win0_9.index t = ![t.val / 8, t.val % 8, 0] ∧ win0_10.index t = ![t.val / 8, t.val % 8, 0, 0] ∧ win0_11.index t = ![t.val / 8, 0, t.val % 8, 0] ∧ win0_12.index t = ![t.val / 8, t.val % 8, 0] ∧ win0_13.index t = ![t.val / 8, 0, t.val % 8] ∧ win0_14.index t = ![t.val / 8, 0, t.val % 8, 0] ∧ win0_15.index t = ![t.val / 8, 0, t.val % 8, 0] ∧ win0_16.index t = ![t.val / 8, 0, t.val % 8, 0] ∧ win0_17.index t = ![t.val / 8, 0, t.val % 8, 0, 0] ∧ win0_18.index t = ![t.val / 8, 0, t.val % 8, 0, 0] ∧ win0_19.index t = ![t.val / 8, 0, t.val % 8, 0] ∧ win0_20.index t = ![t.val / 8, 0, t.val % 8] ∧ win0_21.index t = ![t.val / 8, t.val % 8, 0] ∧ win0_22.index t = ![t.val / 8, t.val % 8, 0] := by decide +kernel

end
end Cert.Proof.Input
-- ==== Proof.InputQueries.lean ====
module

public import proofs.«01_k».proof.Proof.InputOut

@[expose] public section

set_option maxRecDepth 16384

noncomputable section

namespace Cert.Proof.Input

open Idealize.ShloMosaic Idealize.ShloMosaic.TcCoe Idealize.SL.Sem
open Idealize.ShloMosaic.Pipeline (Dat)

section
open Cert.Kernel4Ideal Cert.Kernel4Ideal.Gen

variable (m : (ℓ : Loc nD τ sig) → Buf (Elt Ideal) ℓ)

set_option maxHeartbeats 4000000 in
theorem final8 (c : Dev nD) : (dats m 0 c).arrAt 8 cfg0.N = res8 (aY m c) (aC m c) (aS m c) := by
  refine (dats m 0 c).arrAt_eq_of_covers 8 _ (by decide +kernel) fun t _ y => ?_
  blk_simp
  rw [after0_8]
  unfold outsAt0
  frame_out
  have ht : t.val < 64 := lt_of_lt_of_eq t.isLt N_0
  have hT := tables m c t
  generalize k0_pay3 (F := Ideal) (iblk m c 3 t) = Ct at hT ⊢
  generalize k0_pay4 (F := Ideal) (iblk m c 4 t) = Sa at hT ⊢
  generalize k0_pay5 (F := Ideal) (iblk m c 5 t) = Sb at hT ⊢
  have hA := secA m c t
  generalize k0_pay7 (F := Ideal) (iblk m c 0 t) (iblk m c 1 t) (View.ld (iblk m c 2 t) (Rect.unit ![0, 0] ![1024, 1024] inb_S6144x1024_S1024x1024_0_0)) = A at hA ⊢
  generalize aY m c = Y at hA ⊢
  generalize aC m c = C at hT ⊢
  generalize aS m c = S at hT ⊢
  have hy3 : (y 3 : ℕ) < 64 := (y 3).isLt
  obtain_idx i : S512x512 := [(y 2 : ℕ), 64 * (y 1 : ℕ) + (y 3 : ℕ)] with hi
  refine Eq.trans (b := k0_pay10 Ct Sa Sb A i) ?_ (core8 Ct Sa Sb C S A Y (b := t.val / 8) (r := t.val % 8 * 512) hT hA _ _ ?_ ?_ ?_ ?_)
  · canon_tiles x h
    all_goals (simp only [k0_pay11, k0_pay12, k0_pay13, k0_pay14, k0_pay15, k0_pay16, k0_pay17, k0_pay18, k0_pay19, k0_pay20]; generalize k0_pay10 Ct Sa Sb A = T; pointwise []; blk_ext)
  all_goals (blk_simp [idxo t] <;> try (dsimp [ix2, ix3, ix4, ix5]; omega))

set_option maxHeartbeats 4000000 in
theorem final11 (c : Dev nD) : (dats m 0 c).arrAt 11 cfg0.N = res11 (aY m c) (aC m c) (aS m c) := by
  refine (dats m 0 c).arrAt_eq_of_covers 11 _ (by decide +kernel) fun t _ y => ?_
  blk_simp
  rw [after0_11]
  unfold outsAt0
  frame_out
  have ht : t.val < 64 := lt_of_lt_of_eq t.isLt N_0
  have hT := tables m c t
  generalize k0_pay3 (F := Ideal) (iblk m c 3 t) = Ct at hT ⊢
  generalize k0_pay4 (F := Ideal) (iblk m c 4 t) = Sa at hT ⊢
  generalize k0_pay5 (F := Ideal) (iblk m c 5 t) = Sb at hT ⊢
  have hA := secA m c t
  generalize k0_pay7 (F := Ideal) (iblk m c 0 t) (iblk m c 1 t) (View.ld (iblk m c 2 t) (Rect.unit ![0, 0] ![1024, 1024] inb_S6144x1024_S1024x1024_0_0)) = A at hA ⊢
  generalize aY m c = Y at hA ⊢
  generalize aC m c = C at hT ⊢
  generalize aS m c = S at hT ⊢
  have hy3 : (y 3 : ℕ) < 64 := (y 3).isLt
  obtain_idx i : S512x256 := [(y 2 : ℕ), 64 * (y 1 : ℕ) + (y 3 : ℕ)] with hi
  refine Eq.trans (b := pair Ct Sa Sb (k0_pay30 A) i) ?_ (core11 Ct Sa Sb C S A Y (b := t.val / 8) (r := t.val % 8 * 512) hT hA _ _ ?_ ?_ ?_ ?_)
  · canon_tiles x h
    all_goals (simp only [k0_pay36, k0_pay37, k0_pay38, k0_pay39]; rw [pay35_eq]; generalize pair Ct Sa Sb (k0_pay30 A) = T; pointwise []; blk_ext)
  all_goals (blk_simp [idxo t] <;> try (dsimp [ix2, ix3, ix4, ix5]; omega))

set_option maxHeartbeats 4000000 in
theorem final14 (c : Dev nD) : (dats m 0 c).arrAt 14 cfg0.N = res14 (aY m c) (aC m c) (aS m c) := by
  refine (dats m 0 c).arrAt_eq_of_covers 14 _ (by decide +kernel) fun t _ y => ?_
  blk_simp
  rw [after0_14]
  unfold outsAt0
  frame_out
  have ht : t.val < 64 := lt_of_lt_of_eq t.isLt N_0
  have hT := tables m c t
  generalize k0_pay3 (F := Ideal) (iblk m c 3 t) = Ct at hT ⊢
  generalize k0_pay4 (F := Ideal) (iblk m c 4 t) = Sa at hT ⊢
  generalize k0_pay5 (F := Ideal) (iblk m c 5 t) = Sb at hT ⊢
  have hQ := secQ m c t
  generalize View.ld (iblk m c 2 t) (Rect.unit ![1536, 0] ![512, 1024] inb_S6144x1024_S512x1024_1536_0) = V0 at hQ ⊢
  generalize k0_pay6 (F := Ideal) (iblk m c 0 t) (iblk m c 1 t) = G0 at hQ ⊢
  generalize aY m c = Y at hQ ⊢
  generalize aC m c = C at hT ⊢
  generalize aS m c = S at hT ⊢
  have hy3 : (y 3 : ℕ) < 64 := (y 3).isLt
  obtain_idx i : S512x512 := [(y 2 : ℕ), 64 * (y 1 : ℕ) + (y 3 : ℕ)] with hi
  refine Eq.trans (b := wide Ct Sa Sb (k0_pay44 G0 V0) i) ?_ (core14 Ct Sa Sb C S (k0_pay44 G0 V0) Y (b := t.val / 8) (r := t.val % 8 * 512) hT hQ _ _ ?_ ?_ ?_ ?_)
  · canon_tiles x h
    all_goals (simp only [k0_pay51, k0_pay52, k0_pay53, k0_pay54, k0_pay55, k0_pay56, k0_pay57, k0_pay58, k0_pay59]; rw [pay50_eq]; generalize wide Ct Sa Sb (k0_pay44 G0 V0) = T; pointwise []; blk_ext)
  all_goals (blk_simp [idxo t] <;> try (dsimp [ix2, ix3, ix4, ix5]; omega))

set_option maxHeartbeats 4000000 in
theorem final15 (c : Dev nD) : (dats m 0 c).arrAt 15 cfg0.N = res15 (aY m c) (aC m c) (aS m c) := by
  refine (dats m 0 c).arrAt_eq_of_covers 15 _ (by decide +kernel) fun t _ y => ?_
  blk_simp
  rw [after0_15]
  unfold outsAt0
  frame_out
  have ht : t.val < 64 := lt_of_lt_of_eq t.isLt N_0
  have hT := tables m c t
  generalize k0_pay3 (F := Ideal) (iblk m c 3 t) = Ct at hT ⊢
  generalize k0_pay4 (F := Ideal) (iblk m c 4 t) = Sa at hT ⊢
  generalize k0_pay5 (F := Ideal) (iblk m c 5 t) = Sb at hT ⊢
  have hK := secK m c t
  generalize k0_pay60 (F := Ideal) (k0_pay6 (iblk m c 0 t) (iblk m c 1 t)) (View.ld (iblk m c 2 t) (Rect.unit ![2048, 0] ![1024, 1024] inb_S6144x1024_S1024x1024_2048_0)) = K at hK ⊢
  generalize aY m c = Y at hK ⊢
  generalize aC m c = C at hT ⊢
  generalize aS m c = S at hT ⊢
  have hy3 : (y 3 : ℕ) < 64 := (y 3).isLt
  obtain_idx i : S512x128 := [(y 2 : ℕ), 64 * (y 1 : ℕ) + (y 3 : ℕ)] with hi
  refine Eq.trans (b := k0_pay69 Ct Sa Sb (k0_pay68 K) i) ?_ (core15 Ct Sa Sb C S K Y (b := t.val / 8) (r := t.val % 8 * 512) hT hK _ _ ?_ ?_ ?_ ?_)
  · canon_tiles x h
    all_goals (simp only [k0_pay70, k0_pay71]; generalize k0_pay69 Ct Sa Sb (k0_pay68 K) = T; pointwise []; blk_ext)
  all_goals (blk_simp [idxo t] <;> try (dsimp [ix2, ix3, ix4, ix5]; omega))

set_option maxHeartbeats 4000000 in
theorem final16 (c : Dev nD) : (dats m 0 c).arrAt 16 cfg0.N = res16 (aY m c) (aC m c) (aS m c) := by
  refine (dats m 0 c).arrAt_eq_of_covers 16 _ (by decide +kernel) fun t _ y => ?_
  blk_simp
  rw [after0_16]
  unfold outsAt0
  frame_out
  have ht : t.val < 64 := lt_of_lt_of_eq t.isLt N_0
  have hT := tables m c t
  generalize k0_pay3 (F := Ideal) (iblk m c 3 t) = Ct at hT ⊢
  generalize k0_pay4 (F := Ideal) (iblk m c 4 t) = Sa at hT ⊢
  generalize k0_pay5 (F := Ideal) (iblk m c 5 t) = Sb at hT ⊢
  have hK := secK m c t
  generalize k0_pay60 (F := Ideal) (k0_pay6 (iblk m c 0 t) (iblk m c 1 t)) (View.ld (iblk m c 2 t) (Rect.unit ![2048, 0] ![1024, 1024] inb_S6144x1024_S1024x1024_2048_0)) = K at hK ⊢
  generalize aY m c = Y at hK ⊢
  generalize aC m c = C at hT ⊢
  generalize aS m c = S at hT ⊢
  have hy3 : (y 3 : ℕ) < 64 := (y 3).isLt
  obtain_idx i : S512x128 := [(y 2 : ℕ), 64 * (y 1 : ℕ) + (y 3 : ℕ)] with hi
  refine Eq.trans (b := k0_pay88 Ct Sa Sb K i) ?_ (core16 Ct Sa Sb C S K Y (b := t.val / 8) (r := t.val % 8 * 512) hT hK _ _ ?_ ?_ ?_ ?_)
  · canon_tiles x h
    all_goals (simp only [k0_pay89, k0_pay90]; generalize k0_pay88 Ct Sa Sb K = T; pointwise []; blk_ext)
  all_goals (blk_simp [idxo t] <;> try (dsimp [ix2, ix3, ix4, ix5]; omega))

set_option maxHeartbeats 4000000 in
theorem final19 (c : Dev nD) : (dats m 0 c).arrAt 19 cfg0.N = res19 (aY m c) (aC m c) (aS m c) := by
  refine (dats m 0 c).arrAt_eq_of_covers 19 _ (by decide +kernel) fun t _ y => ?_
  blk_simp
  rw [after0_19]
  unfold outsAt0
  frame_out
  have ht : t.val < 64 := lt_of_lt_of_eq t.isLt N_0
  have hT := tables m c t
  generalize k0_pay3 (F := Ideal) (iblk m c 3 t) = Ct at hT ⊢
  generalize k0_pay4 (F := Ideal) (iblk m c 4 t) = Sa at hT ⊢
  generalize k0_pay5 (F := Ideal) (iblk m c 5 t) = Sb at hT ⊢
  have hK := secK m c t
  generalize k0_pay60 (F := Ideal) (k0_pay6 (iblk m c 0 t) (iblk m c 1 t)) (View.ld (iblk m c 2 t) (Rect.unit ![2048, 0] ![1024, 1024] inb_S6144x1024_S1024x1024_2048_0)) = K at hK ⊢
  generalize aY m c = Y at hK ⊢
  generalize aC m c = C at hT ⊢
  generalize aS m c = S at hT ⊢
  have hy3 : (y 3 : ℕ) < 64 := (y 3).isLt
  obtain_idx i : S512x256 := [(y 2 : ℕ), 64 * (y 1 : ℕ) + (y 3 : ℕ)] with hi
  refine Eq.trans (b := k0_pay63 Ct Sa Sb K i) ?_ (core19 Ct Sa Sb C S K Y (b := t.val / 8) (r := t.val % 8 * 512) hT hK _ _ ?_ ?_ ?_ ?_)
  · canon_tiles x h
    all_goals (simp only [k0_pay64, k0_pay65, k0_pay66, k0_pay67]; generalize k0_pay63 Ct Sa Sb K = T; pointwise []; blk_ext)
  all_goals (blk_simp [idxo t] <;> try (dsimp [ix2, ix3, ix4, ix5]; omega))

end
end Cert.Proof.Input
-- ==== Proof.InputPlain.lean ====
module

public import proofs.«01_k».proof.Proof.InputOut

@[expose] public section

set_option maxRecDepth 16384

noncomputable section

namespace Cert.Proof.Input

open Idealize.ShloMosaic Idealize.ShloMosaic.TcCoe Idealize.SL.Sem
open Idealize.ShloMosaic.Pipeline (Dat)

section
open Cert.Kernel4Ideal Cert.Kernel4Ideal.Gen

variable (m : (ℓ : Loc nD τ sig) → Buf (Elt Ideal) ℓ)

set_option maxHeartbeats 4000000 in
theorem final9 (c : Dev nD) : (dats m 0 c).arrAt 9 cfg0.N = res9 (aY m c) (aC m c) (aS m c) (aK m c) (aU m c) := by
  refine (dats m 0 c).arrAt_eq_of_covers 9 _ (by decide +kernel) fun t _ y => ?_
  blk_simp
  rw [after0_9]
  unfold outsAt0
  frame_out
  have ht : t.val < 64 := lt_of_lt_of_eq t.isLt N_0
  have hT := tables m c t
  generalize k0_pay3 (F := Ideal) (iblk m c 3 t) = Ct at hT ⊢
  generalize k0_pay4 (F := Ideal) (iblk m c 4 t) = Sa at hT ⊢
  generalize k0_pay5 (F := Ideal) (iblk m c 5 t) = Sb at hT ⊢
  have hB := kv_at m c t
  generalize iblk m c 6 t = g at hB ⊢
  generalize iblk m c 7 t = u at hB ⊢
  generalize k0_pay7 (F := Ideal) (iblk m c 0 t) (iblk m c 1 t) (View.ld (iblk m c 2 t) (Rect.unit ![0, 0] ![1024, 1024] inb_S6144x1024_S1024x1024_0_0)) = A at hB ⊢
  generalize aY m c = Y at hB ⊢
  generalize aC m c = C at hT ⊢
  generalize aS m c = S at hT ⊢
  refine core9 Ct Sa Sb C S A g u Y (aK m c) (aU m c) (b := t.val / 8) (r := t.val % 8 * 512) hT hB y _ ?_ ?_ ?_
  all_goals (blk_simp [idxo t] <;> try (dsimp [ix2, ix3, ix4, ix5]; omega))

set_option maxHeartbeats 4000000 in
theorem final12 (c : Dev nD) : (dats m 0 c).arrAt 12 cfg0.N = res12 (aY m c) (aC m c) (aS m c) := by
  refine (dats m 0 c).arrAt_eq_of_covers 12 _ (by decide +kernel) fun t _ y => ?_
  blk_simp
  rw [after0_12]
  unfold outsAt0
  frame_out
  have ht : t.val < 64 := lt_of_lt_of_eq t.isLt N_0
  have hT := tables m c t
  generalize k0_pay3 (F := Ideal) (iblk m c 3 t) = Ct at hT ⊢
  generalize k0_pay4 (F := Ideal) (iblk m c 4 t) = Sa at hT ⊢
  generalize k0_pay5 (F := Ideal) (iblk m c 5 t) = Sb at hT ⊢
  have hA := secA m c t
  generalize k0_pay7 (F := Ideal) (iblk m c 0 t) (iblk m c 1 t) (View.ld (iblk m c 2 t) (Rect.unit ![0, 0] ![1024, 1024] inb_S6144x1024_S1024x1024_0_0)) = A at hA ⊢
  generalize aY m c = Y at hA ⊢
  generalize aC m c = C at hT ⊢
  generalize aS m c = S at hT ⊢
  refine core12 Ct Sa Sb C S A Y (b := t.val / 8) (r := t.val % 8 * 512) hT hA y _ ?_ ?_ ?_
  all_goals (blk_simp [idxo t] <;> try (dsimp [ix2, ix3, ix4, ix5]; omega))

set_option maxHeartbeats 4000000 in
theorem final13 (c : Dev nD) : (dats m 0 c).arrAt 13 cfg0.N = res13 (aY m c) := by
  refine (dats m 0 c).arrAt_eq_of_covers 13 _ (by decide +kernel) fun t _ y => ?_
  blk_simp
  rw [after0_13]
  unfold outsAt0
  frame_out
  have ht : t.val < 64 := lt_of_lt_of_eq t.isLt N_0
  have hA := secA m c t
  have hz := secA_zero m c t
  generalize k0_pay7 (F := Ideal) (iblk m c 0 t) (iblk m c 1 t) (View.ld (iblk m c 2 t) (Rect.unit ![0, 0] ![1024, 1024] inb_S6144x1024_S1024x1024_0_0)) = A at hA hz ⊢
  generalize aY m c = Y at hA ⊢
  refine core13 A Y (b := t.val / 8) (r := t.val % 8 * 512) hA hz y _ ?_ ?_ ?_
  all_goals (blk_simp [idxo t] <;> try (dsimp [ix2, ix3, ix4, ix5]; omega))

set_option maxHeartbeats 4000000 in
theorem final20 (c : Dev nD) : (dats m 0 c).arrAt 20 cfg0.N = res20 (aY m c) := by
  refine (dats m 0 c).arrAt_eq_of_covers 20 _ (by decide +kernel) fun t _ y => ?_
  blk_simp
  rw [after0_20]
  unfold outsAt0
  frame_out
  have ht : t.val < 64 := lt_of_lt_of_eq t.isLt N_0
  have hK := secK m c t
  generalize k0_pay60 (F := Ideal) (k0_pay6 (iblk m c 0 t) (iblk m c 1 t)) (View.ld (iblk m c 2 t) (Rect.unit ![2048, 0] ![1024, 1024] inb_S6144x1024_S1024x1024_2048_0)) = K at hK ⊢
  generalize aY m c = Y at hK ⊢
  pointwise [k0_pay2, res20]
  refine hK _ _ ?_ ?_ ?_ ?_
  all_goals (blk_simp [idxo t] <;> try (dsimp [ix2, ix3, ix4, ix5]; omega))

set_option maxHeartbeats 4000000 in
theorem final21 (c : Dev nD) : (dats m 0 c).arrAt 21 cfg0.N = res21 (aY m c) := by
  refine (dats m 0 c).arrAt_eq_of_covers 21 _ (by decide +kernel) fun t _ y => ?_
  blk_simp
  rw [after0_21]
  unfold outsAt0
  frame_out
  have ht : t.val < 64 := lt_of_lt_of_eq t.isLt N_0
  have hB := secB m c t
  generalize k0_pay62 (F := Ideal) (k0_pay6 (iblk m c 0 t) (iblk m c 1 t)) (View.ld (iblk m c 2 t) (Rect.unit ![1024, 0] ![512, 1024] inb_S6144x1024_S512x1024_1024_0)) = B at hB ⊢
  generalize aY m c = Y at hB ⊢
  pointwise [res21]
  refine hB _ _ ?_ ?_ ?_
  all_goals (blk_simp [idxo t] <;> try (dsimp [ix2, ix3, ix4, ix5]; omega))

set_option maxHeartbeats 4000000 in
theorem final22 (c : Dev nD) : (dats m 0 c).arrAt 22 cfg0.N = res22 (aY m c) := by
  refine (dats m 0 c).arrAt_eq_of_covers 22 _ (by decide +kernel) fun t _ y => ?_
  blk_simp
  rw [after0_22]
  unfold outsAt0
  frame_out
  have ht : t.val < 64 := lt_of_lt_of_eq t.isLt N_0
  have e0 := secM0 m c t
  have e1 := secM1 m c t
  have e2 := secM2 m c t
  generalize k0_pay9 (F := Ideal) (k0_pay8 (iblk m c 0 t) (iblk m c 1 t) (View.ld (iblk m c 2 t) (Rect.unit ![3072, 0] ![1024, 1024] inb_S6144x1024_S1024x1024_3072_0))) = M0 at e0 ⊢
  generalize k0_pay45 (F := Ideal) (k0_pay6 (iblk m c 0 t) (iblk m c 1 t)) (View.ld (iblk m c 2 t) (Rect.unit ![4096, 0] ![1024, 1024] inb_S6144x1024_S1024x1024_4096_0)) = M1 at e1 ⊢
  generalize k0_pay61 (F := Ideal) (k0_pay6 (iblk m c 0 t) (iblk m c 1 t)) (View.ld (iblk m c 2 t) (Rect.unit ![5120, 0] ![1024, 1024] inb_S6144x1024_S1024x1024_5120_0)) = M2 at e2 ⊢
  generalize aY m c = Y at e0 e1 e2 ⊢
  obtain_idx j : Cert.Reference4Ideal.S8x4096x5852 := [t.val / 8, t.val % 8 * 512 + (y 1 : ℕ), 2780 + (y 2 : ℕ)] with hj
  refine Eq.trans (b := Y j) ?_ ?_
  · canon_tiles x h
    · exact e2 _ _ (by omega) (by omega) (by omega)
    · exact e1 _ _ (by omega) (by omega) (by omega)
    · exact e0 _ _ (by omega) (by omega) (by omega)
  · pointwise [res22]
    blk_ext [idxo t]

end
end Cert.Proof.Input
-- ==== Proof.InputValues.lean ====
module

public import proofs.«01_k».proof.Proof.InputOut

@[expose] public section

set_option maxRecDepth 16384

noncomputable section

namespace Cert.Proof.Input

open Idealize.ShloMosaic Idealize.ShloMosaic.TcCoe Idealize.SL.Sem
open Idealize.ShloMosaic.Pipeline (Dat)

section
open Cert.Kernel4Ideal Cert.Kernel4Ideal.Gen

variable (m : (ℓ : Loc nD τ sig) → Buf (Elt Ideal) ℓ)

set_option maxHeartbeats 4000000 in
theorem final10 (c : Dev nD) : (dats m 0 c).arrAt 10 cfg0.N = res10 (aY m c) (aK m c) (aU m c) := by
  refine (dats m 0 c).arrAt_eq_of_covers 10 _ (by decide +kernel) fun t _ y => ?_
  blk_simp
  rw [after0_10]
  unfold outsAt0
  frame_out
  have ht : t.val < 64 := lt_of_lt_of_eq t.isLt N_0
  have hB := kv_at m c t
  generalize iblk m c 6 t = g at hB ⊢
  generalize iblk m c 7 t = u at hB ⊢
  generalize k0_pay7 (F := Ideal) (iblk m c 0 t) (iblk m c 1 t) (View.ld (iblk m c 2 t) (Rect.unit ![0, 0] ![1024, 1024] inb_S6144x1024_S1024x1024_0_0)) = A at hB ⊢
  unfold res10
  generalize keyval (aY m c) (aK m c) (aU m c) = Z at hB ⊢
  have hy1 : (y 1 : ℕ) < 2 := (y 1).isLt
  have hy2 : (y 2 : ℕ) < 72 := (y 2).isLt
  have hy3 : (y 3 : ℕ) < 256 := (y 3).isLt
  obtain_idx i : S512x128 := [256 * (y 1 : ℕ) + (y 3 : ℕ), 64 + (y 2 : ℕ) % 64] with hi
  obtain_idx k : Cert.Reference4Ideal.S8x4096x128 := [t.val / 8, t.val % 8 * 512 + 256 * (y 1 : ℕ) + (y 3 : ℕ), 64 + (y 2 : ℕ) % 64] with hk
  refine Eq.trans (b := pick (y 2) (k0_pay21 A g u i)) ?_ ?_
  · canon_tiles x h using (View.cover_of_tiledBy _ ![1, 1, 8, 256] (by sl_kernel_rfl) y)
    all_goals first
      | (rw [pick, if_pos (by omega)]
         simp only [k0_pay26, k0_pay28, k0_pay23]
         generalize k0_pay21 A g u = T
         pointwise []
         blk_ext)
      | (rw [pick, if_neg (by omega)]
         simp only [k0_pay27, k0_pay29]
         pointwise []
         refine (mask_one _).trans ?_
         refine if_congr ?_ rfl rfl
         dsimp [ix2]
         omega)
  · rw [hB i k (by omega) (by omega) (by omega)]
    refine (rows1_of Z _ k _ ?_ ?_ ?_ ?_).symm
    all_goals (blk_simp [idxo t] <;> try (dsimp [ix2, ix3, ix4, ix5]; omega))

set_option maxHeartbeats 4000000 in
theorem final17 (c : Dev nD) : (dats m 0 c).arrAt 17 cfg0.N = res17 (aY m c) := by
  refine (dats m 0 c).arrAt_eq_of_covers 17 _ (by decide +kernel) fun t _ y => ?_
  blk_simp
  rw [after0_17]
  unfold outsAt0
  frame_out
  have ht : t.val < 64 := lt_of_lt_of_eq t.isLt N_0
  have hK := secK m c t
  generalize k0_pay60 (F := Ideal) (k0_pay6 (iblk m c 0 t) (iblk m c 1 t)) (View.ld (iblk m c 2 t) (Rect.unit ![2048, 0] ![1024, 1024] inb_S6144x1024_S1024x1024_2048_0)) = K at hK ⊢
  generalize aY m c = Y at hK ⊢
  have hy1 : (y 1 : ℕ) < 2 := (y 1).isLt
  have hy2 : (y 2 : ℕ) < 2 := (y 2).isLt
  have hy3 : (y 3 : ℕ) < 72 := (y 3).isLt
  have hy4 : (y 4 : ℕ) < 256 := (y 4).isLt
  obtain_idx i : S512x1024 := [256 * (y 2 : ℕ) + (y 4 : ℕ), 384 + 64 * (y 1 : ℕ) + (y 3 : ℕ) % 64] with hi
  obtain_idx k : Cert.Reference4Ideal.S8x2x4096x64 := [t.val / 8, (y 1 : ℕ), t.val % 8 * 512 + 256 * (y 2 : ℕ) + (y 4 : ℕ), (y 3 : ℕ) % 64] with hk
  refine Eq.trans (b := pick (y 3) (K i)) ?_ ?_
  · canon_tiles x h using (View.cover_of_tiledBy _ ![1, 1, 1, 8, 256] (by sl_kernel_rfl) y)
    all_goals first
      | (rw [pick, if_pos (by omega)]
         simp only [k0_pay72, k0_pay73, k0_pay75, k0_pay78, k0_pay80, k0_pay82, k0_pay83, k0_pay85]
         pointwise []
         blk_ext)
      | (rw [pick, if_neg (by omega)]
         simp only [k0_pay76, k0_pay77, k0_pay79, k0_pay84, k0_pay86, k0_pay87]
         (try rw [pay74_eq]); (try rw [pay81_eq]); pointwise []
         refine (mask_one _).trans ?_
         refine if_congr ?_ rfl rfl
         dsimp [ix2]
         omega)
  · have e := core17 K Y (b := t.val / 8) (r := t.val % 8 * 512) hK i k (y 3) (y 1) (by omega) (by omega) (by omega) (by omega) (by omega)
    refine e.trans (rows2_of _ _ k _ ?_ ?_ ?_ ?_ ?_).symm
    all_goals (blk_simp [idxo t] <;> try (dsimp [ix2, ix3, ix4, ix5]; omega))

set_option maxHeartbeats 4000000 in
theorem final18 (c : Dev nD) : (dats m 0 c).arrAt 18 cfg0.N = res18 (aY m c) := by
  refine (dats m 0 c).arrAt_eq_of_covers 18 _ (by decide +kernel) fun t _ y => ?_
  blk_simp
  rw [after0_18]
  unfold outsAt0
  frame_out
  have ht : t.val < 64 := lt_of_lt_of_eq t.isLt N_0
  have hK := secK m c t
  generalize k0_pay60 (F := Ideal) (k0_pay6 (iblk m c 0 t) (iblk m c 1 t)) (View.ld (iblk m c 2 t) (Rect.unit ![2048, 0] ![1024, 1024] inb_S6144x1024_S1024x1024_2048_0)) = K at hK ⊢
  generalize aY m c = Y at hK ⊢
  have hy1 : (y 1 : ℕ) < 2 := (y 1).isLt
  have hy2 : (y 2 : ℕ) < 2 := (y 2).isLt
  have hy3 : (y 3 : ℕ) < 72 := (y 3).isLt
  have hy4 : (y 4 : ℕ) < 256 := (y 4).isLt
  obtain_idx i : S512x1024 := [256 * (y 2 : ℕ) + (y 4 : ℕ), 640 + 64 * (y 1 : ℕ) + (y 3 : ℕ) % 64] with hi
  obtain_idx k : Cert.Reference4Ideal.S8x2x4096x64 := [t.val / 8, (y 1 : ℕ), t.val % 8 * 512 + 256 * (y 2 : ℕ) + (y 4 : ℕ), (y 3 : ℕ) % 64] with hk
  refine Eq.trans (b := pick (y 3) (K i)) ?_ ?_
  · canon_tiles x h using (View.cover_of_tiledBy _ ![1, 1, 1, 8, 256] (by sl_kernel_rfl) y)
    all_goals first
      | (rw [pick, if_pos (by omega)]
         simp only [k0_pay91, k0_pay92, k0_pay94, k0_pay95, k0_pay97, k0_pay99, k0_pay104, k0_pay106]
         pointwise []
         blk_ext)
      | (rw [pick, if_neg (by omega)]
         simp only [k0_pay96, k0_pay98, k0_pay105, k0_pay107, k0_pay1]
         (try rw [pay93_eq]); (try rw [pay103_eq]); pointwise []
         refine (mask_one _).trans ?_
         refine if_congr ?_ rfl rfl
         dsimp [ix2]
         omega)
  · have e := core18 K Y (b := t.val / 8) (r := t.val % 8 * 512) hK i k (y 3) (y 1) (by omega) (by omega) (by omega) (by omega) (by omega)
    refine e.trans (rows2_of _ _ k _ ?_ ?_ ?_ ?_ ?_).symm
    all_goals (blk_simp [idxo t] <;> try (dsimp [ix2, ix3, ix4, ix5]; omega))

end
end Cert.Proof.Input
-- ==== Proof.lean ====
/-
  The proof of `Cert.Claim`: the frames of the four kernels, and the values of the feed-forward, merge and input kernels.
-/
module

public import proofs.«01_k».proof.Defs
public import proofs.«01_k».proof.Proof.Launch
public import proofs.«01_k».proof.Proof.Ffn
public import proofs.«01_k».proof.Proof.Merge
public import proofs.«01_k».proof.Proof.InputQueries
public import proofs.«01_k».proof.Proof.InputPlain
public import proofs.«01_k».proof.Proof.InputValues
public import proofs.«01_k».proof.Proof.Gen.Kernel2.Frame
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import Idealize.ShloMosaic.Adequacy
public import Idealize.ShloMosaic.Init

@[expose] public section

noncomputable section

namespace Cert.Proof

open Idealize.ShloMosaic Idealize.ShloMosaic.TcCoe Idealize.SL.Sem

/-- The sparse attention kernel's run ends, its arguments unchanged and every counter at zero. -/
theorem quiescent_kernel : Cert.quiescent_Kernel (hKernel := Cert.Kernel.Gen.facts) := fun m ρ _ =>
  (θ_run Cert.Kernel.defs _ _).mono
    (fun _ h => ⟨fun c => ⟨Kernel.final_in h.1 c 0 rfl, Kernel.final_in h.1 c 1 rfl, Kernel.final_in h.1 c 2 rfl,
      Kernel.final_in h.1 c 3 rfl, Kernel.final_in h.1 c 4 rfl, Kernel.final_in h.1 c 5 rfl⟩, h.2⟩)
    (Kernel.run_main (F := Bits) m ρ)

/-- The plain feed-forward program's run, read at its arguments; it has no counters. -/
theorem quiescent_reference2 : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The feed-forward kernel and the plain formula leave the same array. -/
theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => (Cert.Kernel2Ideal.Gen.dats m 0 c).arrAt 5 Cert.Kernel2Ideal.cfg0.N, Cert.Kernel2Ideal.Value.run_blocks m ρ, ?_⟩
  refine (θ_run Cert.Reference2Ideal.defs _ _).mono (fun _ h c => ⟨(h c).1.trans ?_, (h c).2⟩)
    (Cert.Reference2Ideal.Value.run (F := Ideal) m' ρ')
  beta_reduce
  rw [Ffn.final m c, (hagree c).1, (hagree c).2.1, (hagree c).2.2.1, (hagree c).2.2.2.1, (hagree c).2.2.2.2]
  rfl

/-- The plain merge program's run, read at its arguments; it has no counters. -/
theorem quiescent_reference3 : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The plain input program's run, read at its arguments; it has no counters. -/
theorem quiescent_reference4 : Cert.quiescent_Reference4Ideal (hReference4Ideal := Cert.Reference4Ideal.Gen.facts) := fun m ρ _ =>
  (θ_run Cert.Reference4Ideal.defs _ _).mono
    (fun r h => ⟨fun c => (h c).2.2.2.2.2.2.2.2.2.2.2.2.2.2.2, Idealize.ShloMosaic.sem_eq_zero_of_no_sems (by decide) r.2⟩)
    (Cert.Reference4Ideal.Value.run (F := Ideal) m ρ)

/-- The merge kernel and the plain formula leave the same array. -/
theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 12 Cert.Kernel3Ideal.cfg0.N, Cert.Kernel3Ideal.Value.run_blocks m ρ, ?_⟩
  refine (θ_run Cert.Reference3Ideal.defs _ _).mono (fun _ h c => ⟨(h c).1.trans ?_, (h c).2⟩)
    (Cert.Reference3Ideal.Value.run (F := Ideal) m' ρ')
  beta_reduce
  obtain ⟨e0, e1, e2, e3, e4, e5, e6, e7, e8, e9, e10⟩ := hagree c
  rw [Merge.final m c, ← e0, ← e1, ← e2, ← e3, ← e4, ← e5, ← e6, ← e7, ← e8, ← e9, ← e10]
  rfl

set_option maxHeartbeats 4000000 in
/-- The input kernel and the plain formulas leave the same fifteen arrays. -/
theorem algebraic4 : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    fun c => (Cert.Kernel4Ideal.Gen.dats m 0 c).arrAt 16 Cert.Kernel4Ideal.cfg0.N,
    fun c => (Cert.Kernel4Ideal.Gen.dats m 0 c).arrAt 17 Cert.Kernel4Ideal.cfg0.N,
    fun c => (Cert.Kernel4Ideal.Gen.dats m 0 c).arrAt 18 Cert.Kernel4Ideal.cfg0.N,
    fun c => (Cert.Kernel4Ideal.Gen.dats m 0 c).arrAt 19 Cert.Kernel4Ideal.cfg0.N,
    fun c => (Cert.Kernel4Ideal.Gen.dats m 0 c).arrAt 20 Cert.Kernel4Ideal.cfg0.N,
    fun c => (Cert.Kernel4Ideal.Gen.dats m 0 c).arrAt 21 Cert.Kernel4Ideal.cfg0.N,
    fun c => (Cert.Kernel4Ideal.Gen.dats m 0 c).arrAt 22 Cert.Kernel4Ideal.cfg0.N,
    Cert.Kernel4Ideal.Value.run_blocks m ρ, ?_⟩
  refine (θ_run Cert.Reference4Ideal.defs _ _).mono (fun _ h c => ?_) (Cert.Reference4Ideal.Value.run (F := Ideal) m' ρ')
  obtain ⟨e0, e1, e2, e3, e4, e5, e6⟩ := hagree c
  obtain ⟨h8, h9, h10, h11, h12, h13, h14, h15, h16, h17, h18, h19, h20, h21, h22, hargs⟩ := h c
  have eY : Input.aY m c = Input.proj (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) := by
    rw [e0, e3, e4]
  have eC : Input.aC m c = m' ((c.tc : Thread Cert.Reference4Ideal.nD Cert.Reference4Ideal.τ).loc Cert.Reference4Ideal.main_arg1) := e1.symm
  have eS : Input.aS m c = m' ((c.tc : Thread Cert.Reference4Ideal.nD Cert.Reference4Ideal.τ).loc Cert.Reference4Ideal.main_arg2) := e2.symm
  have eK : Input.aK m c = m' ((c.tc : Thread Cert.Reference4Ideal.nD Cert.Reference4Ideal.τ).loc Cert.Reference4Ideal.main_arg5) := e5.symm
  have eU : Input.aU m c = m' ((c.tc : Thread Cert.Reference4Ideal.nD Cert.Reference4Ideal.τ).loc Cert.Reference4Ideal.main_arg6) := e6.symm
  refine ⟨h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, hargs⟩
  · beta_reduce; rw [Input.final8 m c, eY, eC, eS]; rfl
  · beta_reduce; rw [Input.final9 m c, eY, eC, eS, eK, eU]; rfl
  · beta_reduce; rw [Input.final10 m c, eY, eK, eU]; rfl
  · beta_reduce; rw [Input.final11 m c, eY, eC, eS]; rfl
  · beta_reduce; rw [Input.final12 m c, eY, eC, eS]; rfl
  · beta_reduce; rw [Input.final13 m c, eY]; rfl
  · beta_reduce; rw [Input.final14 m c, eY, eC, eS]; rfl
  · beta_reduce; rw [Input.final15 m c, eY, eC, eS]; rfl
  · beta_reduce; rw [Input.final16 m c, eY, eC, eS]; rfl
  · beta_reduce; rw [Input.final17 m c, eY]; rfl
  · beta_reduce; rw [Input.final18 m c, eY]; rfl
  · beta_reduce; rw [Input.final19 m c, eY, eC, eS]; rfl
  · beta_reduce; rw [Input.final20 m c, eY]; rfl
  · beta_reduce; rw [Input.final21 m c, eY]; rfl
  · beta_reduce; rw [Input.final22 m c, eY]; rfl

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, quiescent_kernel,
    fun m ρ _ => Cert.Kernel2.Gen.frame m ρ, fun m ρ _ => Cert.Kernel2Ideal.Gen.frame m ρ, quiescent_reference2,
    fun m ρ _ => Cert.Kernel3.Gen.frame m ρ, fun m ρ _ => Cert.Kernel3Ideal.Gen.frame m ρ, quiescent_reference3,
    fun m ρ _ => Cert.Kernel4.Gen.frame m ρ, fun m ρ _ => Cert.Kernel4Ideal.Gen.frame m ρ, quiescent_reference4,
    trivial, algebraic2, trivial, algebraic3, trivial, algebraic4⟩

end Cert.Proof

end
